-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v13)) (v1 : (c : Dev Cert.Kernel2Ideal.nD) → Buf (Elt Ideal) ((c.tc : Thread Cert.Kernel2Ideal.nD Cert.Kernel2Ideal.τ).loc Cert.Kernel2Ideal.main_v14)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v17)) (v5 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_v14) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v17) = v4 c
          ∧ r.2.mem ((c.tc : Thread Cert.Kernel2Ideal.nD Cert.Kernel2Ideal.τ).loc Cert.Kernel2Ideal.main_v21) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_v119) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_v124) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v125) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x4096x4096 : Shape := ⟨3, ![4, 4096, 4096]⟩
abbrev S4096 : Shape := ⟨1, ![4096]⟩
abbrev S4x4096x2048 : Shape := ⟨3, ![4, 4096, 2048]⟩
abbrev S4096x25648 : Shape := ⟨2, ![4096, 25648]⟩
abbrev S31x1024 : Shape := ⟨2, ![31, 1024]⟩
abbrev S1024 : Shape := ⟨1, ![1024]⟩
abbrev S2048x4096 : Shape := ⟨2, ![2048, 4096]⟩
abbrev S1024x4096 : Shape := ⟨2, ![1024, 4096]⟩
abbrev S8x128x128 : Shape := ⟨3, ![8, 128, 128]⟩
abbrev S8x128 : Shape := ⟨2, ![8, 128]⟩
abbrev S4096x4096 : Shape := ⟨2, ![4096, 4096]⟩
abbrev S16384x4096 : Shape := ⟨2, ![16384, 4096]⟩
abbrev S25648x4096 : Shape := ⟨2, ![25648, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x3072 : Shape := ⟨2, ![16384, 3072]⟩
abbrev S1024x1024 : Shape := ⟨2, ![1024, 1024]⟩
abbrev S16384x2048 : Shape := ⟨2, ![16384, 2048]⟩
abbrev S16384x1024 : Shape := ⟨2, ![16384, 1024]⟩
abbrev S1024x512 : Shape := ⟨2, ![1024, 512]⟩
abbrev S4x4096x1024 : Shape := ⟨3, ![4, 4096, 1024]⟩
abbrev S1x1024 : Shape := ⟨2, ![1, 1024]⟩
abbrev S1x256x1024 : Shape := ⟨3, ![1, 256, 1024]⟩
abbrev S1x32x1024 : Shape := ⟨3, ![1, 32, 1024]⟩
abbrev S8x288x1024 : Shape := ⟨3, ![8, 288, 1024]⟩
abbrev S32x1024 : Shape := ⟨2, ![32, 1024]⟩
abbrev S256x1024 : Shape := ⟨2, ![256, 1024]⟩
abbrev S1x280x1024 : Shape := ⟨3, ![1, 280, 1024]⟩
abbrev S280x1024 : Shape := ⟨2, ![280, 1024]⟩
abbrev S32 : Shape := ⟨1, ![32]⟩
abbrev S32x1 : Shape := ⟨2, ![32, 1]⟩
abbrev S128x8 : Shape := ⟨2, ![128, 8]⟩
abbrev S512x1024 : Shape := ⟨2, ![512, 1024]⟩
abbrev S128x128 : Shape := ⟨2, ![128, 128]⟩
abbrev S1x128x128 : Shape := ⟨3, ![1, 128, 128]⟩
abbrev S128x1 : Shape := ⟨2, ![128, 1]⟩
abbrev S512x2048 : Shape := ⟨2, ![512, 2048]⟩
abbrev S2048x512 : Shape := ⟨2, ![2048, 512]⟩
abbrev S512x512 : Shape := ⟨2, ![512, 512]⟩
abbrev S4096x1024 : Shape := ⟨2, ![4096, 1024]⟩

abbrev nBuf : Space → Nat
  | .hbm => 46
  | .vmem => 91
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x2048, .bf16⟩
  | .hbm, ⟨3, _⟩ => ⟨S4096x25648, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S8x128x128, .f32⟩
  | .hbm, ⟨13, _⟩ => ⟨S8x128, .f32⟩
  | .hbm, ⟨14, _⟩ => ⟨S1024x4096, .f32⟩
  | .hbm, ⟨15, _⟩ => ⟨S4096x4096, .f32⟩
  | .hbm, ⟨16, _⟩ => ⟨S4096, .f32⟩
  | .hbm, ⟨17, _⟩ => ⟨S16384x4096, .f32⟩
  | .hbm, ⟨18, _⟩ => ⟨S25648x4096, .f32⟩
  | .hbm, ⟨19, _⟩ => ⟨S25648x4096, .bf16⟩
  | .hbm, ⟨20, _⟩ => ⟨S1x4096, .f32⟩
  | .hbm, ⟨21, _⟩ => ⟨S16384x4096, .bf16⟩
  | .hbm, ⟨22, _⟩ => ⟨S16384x3072, .bf16⟩
  | .hbm, ⟨23, _⟩ => ⟨S16384x2048, .f32⟩
  | .hbm, ⟨24, _⟩ => ⟨S16384x4096, .bf16⟩
  | .hbm, ⟨25, _⟩ => ⟨S16384x1024, .f32⟩
  | .hbm, ⟨26, _⟩ => ⟨S4x4096x1024, .f32⟩
  | .hbm, ⟨27, _⟩ => ⟨S4x4096x4096, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S4x4096x1024, .bf16⟩
  | .hbm, ⟨32, _⟩ => ⟨S1x1024, .f32⟩
  | .hbm, ⟨33, _⟩ => ⟨S1x1024, .f32⟩
  | .hbm, ⟨34, _⟩ => ⟨S128x8, .f32⟩
  | .hbm, ⟨35, _⟩ => ⟨S16384x1024, .bf16⟩
  | .hbm, ⟨36, _⟩ => ⟨S16384x2048, .bf16⟩
  | .hbm, ⟨37, _⟩ => ⟨S16384x1024, .bf16⟩
  | .hbm, ⟨38, _⟩ => ⟨S2048x4096, .bf16⟩
  | .hbm, ⟨39, _⟩ => ⟨S1024x4096, .bf16⟩
  | .hbm, ⟨40, _⟩ => ⟨S1024x4096, .bf16⟩
  | .hbm, ⟨41, _⟩ => ⟨S16384x4096, .bf16⟩
  | .hbm, ⟨42, _⟩ => ⟨S4096x4096, .bf16⟩
  | .hbm, ⟨43, _⟩ => ⟨S16384x4096, .f32⟩
  | .hbm, ⟨44, _⟩ => ⟨S1x4096, .f32⟩
  | .hbm, ⟨45, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1024x1024, .f32⟩
  | .local _ .vmem, ⟨16, _⟩ => ⟨S1024x1024, .f32⟩
  | .local _ .vmem, ⟨17, _⟩ => ⟨S1024x4096, .bf16⟩
  | .local _ .vmem, ⟨18, _⟩ => ⟨S1024x4096, .bf16⟩
  | .local _ .vmem, ⟨19, _⟩ => ⟨S1024x4096, .bf16⟩
  | .local _ .vmem, ⟨20, _⟩ => ⟨S1024x4096, .bf16⟩
  | .local _ .vmem, ⟨21, _⟩ => ⟨S1024x1024, .bf16⟩
  | .local _ .vmem, ⟨22, _⟩ => ⟨S1024x1024, .bf16⟩
  | .local _ .vmem, ⟨23, _⟩ => ⟨S1024x4096, .bf16⟩
  | .local _ .vmem, ⟨24, _⟩ => ⟨S1024x4096, .bf16⟩
  | .local _ .vmem, ⟨25, _⟩ => ⟨S512x4096, .bf16⟩
  | .local _ .vmem, ⟨26, _⟩ => ⟨S512x4096, .bf16⟩
  | .local _ .vmem, ⟨27, _⟩ => ⟨S512x4096, .bf16⟩
  | .local _ .vmem, ⟨28, _⟩ => ⟨S512x4096, .bf16⟩
  | .local _ .vmem, ⟨29, _⟩ => ⟨S1024x512, .f32⟩
  | .local _ .vmem, ⟨30, _⟩ => ⟨S1024x512, .f32⟩
  | .local _ .vmem, ⟨31, _⟩ => ⟨S1x256x1024, .f32⟩
  | .local _ .vmem, ⟨32, _⟩ => ⟨S1x256x1024, .f32⟩
  | .local _ .vmem, ⟨33, _⟩ => ⟨S1x32x1024, .f32⟩
  | .local _ .vmem, ⟨34, _⟩ => ⟨S1x32x1024, .f32⟩
  | .local _ .vmem, ⟨35, _⟩ => ⟨S31x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x256x1024, .bf16⟩
  | .local _ .vmem, ⟨40, _⟩ => ⟨S1x256x1024, .bf16⟩
  | .local _ .vmem, ⟨41, _⟩ => ⟨S1x256x1024, .bf16⟩
  | .local _ .vmem, ⟨42, _⟩ => ⟨S1x256x1024, .bf16⟩
  | .local _ .vmem, ⟨43, _⟩ => ⟨S8x288x1024, .f32⟩
  | .local _ .vmem, ⟨44, _⟩ => ⟨S512x1024, .bf16⟩
  | .local _ .vmem, ⟨45, _⟩ => ⟨S512x1024, .bf16⟩
  | .local _ .vmem, ⟨46, _⟩ => ⟨S512x1024, .f32⟩
  | .local _ .vmem, ⟨47, _⟩ => ⟨S512x1024, .f32⟩
  | .local _ .vmem, ⟨48, _⟩ => ⟨S512x1024, .bf16⟩
  | .local _ .vmem, ⟨49, _⟩ => ⟨S512x1024, .bf16⟩
  | .local _ .vmem, ⟨50, _⟩ => ⟨S1x1024, .f32⟩
  | .local _ .vmem, ⟨51, _⟩ => ⟨S1x1024, .f32⟩
  | .local _ .vmem, ⟨52, _⟩ => ⟨S8x128x128, .f32⟩
  | .local _ .vmem, ⟨53, _⟩ => ⟨S128x8, .f32⟩
  | .local _ .vmem, ⟨54, _⟩ => ⟨S512x1024, .bf16⟩
  | .local _ .vmem, ⟨55, _⟩ => ⟨S512x1024, .bf16⟩
  | .local _ .vmem, ⟨56, _⟩ => ⟨S512x4096, .bf16⟩
  | .local _ .vmem, ⟨57, _⟩ => ⟨S512x4096, .bf16⟩
  | .local _ .vmem, ⟨58, _⟩ => ⟨S512x2048, .bf16⟩
  | .local _ .vmem, ⟨59, _⟩ => ⟨S512x2048, .bf16⟩
  | .local _ .vmem, ⟨60, _⟩ => ⟨S512x1024, .bf16⟩
  | .local _ .vmem, ⟨61, _⟩ => ⟨S512x1024, .bf16⟩
  | .local _ .vmem, ⟨62, _⟩ => ⟨S512x1024, .bf16⟩
  | .local _ .vmem, ⟨63, _⟩ => ⟨S512x1024, .bf16⟩
  | .local _ .vmem, ⟨64, _⟩ => ⟨S512x4096, .bf16⟩
  | .local _ .vmem, ⟨65, _⟩ => ⟨S512x4096, .bf16⟩
  | .local _ .vmem, ⟨66, _⟩ => ⟨S512x4096, .bf16⟩
  | .local _ .vmem, ⟨67, _⟩ => ⟨S512x4096, .bf16⟩
  | .local _ .vmem, ⟨68, _⟩ => ⟨S512x4096, .bf16⟩
  | .local _ .vmem, ⟨69, _⟩ => ⟨S512x4096, .bf16⟩
  | .local _ .vmem, ⟨70, _⟩ => ⟨S2048x512, .bf16⟩
  | .local _ .vmem, ⟨71, _⟩ => ⟨S2048x512, .bf16⟩
  | .local _ .vmem, ⟨72, _⟩ => ⟨S1024x512, .bf16⟩
  | .local _ .vmem, ⟨73, _⟩ => ⟨S1024x512, .bf16⟩
  | .local _ .vmem, ⟨74, _⟩ => ⟨S1024x512, .bf16⟩
  | .local _ .vmem, ⟨75, _⟩ => ⟨S1024x512, .bf16⟩
  | .local _ .vmem, ⟨76, _⟩ => ⟨S512x512, .bf16⟩
  | .local _ .vmem, ⟨77, _⟩ => ⟨S512x512, .bf16⟩
  | .local _ .vmem, ⟨78, _⟩ => ⟨S1024x4096, .bf16⟩
  | .local _ .vmem, ⟨79, _⟩ => ⟨S1024x4096, .bf16⟩
  | .local _ .vmem, ⟨80, _⟩ => ⟨S4096x1024, .bf16⟩
  | .local _ .vmem, ⟨81, _⟩ => ⟨S4096x1024, .bf16⟩
  | .local _ .vmem, ⟨82, _⟩ => ⟨S1024x1024, .f32⟩
  | .local _ .vmem, ⟨83, _⟩ => ⟨S1024x1024, .f32⟩
  | .local _ .vmem, ⟨84, _⟩ => ⟨S1024x1024, .f32⟩
  | .local _ .vmem, ⟨85, _⟩ => ⟨S1024x1024, .f32⟩
  | .local _ .vmem, ⟨86, _⟩ => ⟨S512x4096, .f32⟩
  | .local _ .vmem, ⟨87, _⟩ => ⟨S512x4096, .f32⟩
  | .local _ .vmem, ⟨88, _⟩ => ⟨S1x4096, .f32⟩
  | .local _ .vmem, ⟨89, _⟩ => ⟨S512x4096, .f32⟩
  | .local _ .vmem, ⟨90, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg6_1 : Ref sig .tc := ⟨.vmem, 40, rfl⟩
abbrev cc5_stg7_0 : Ref sig .tc := ⟨.vmem, 41, rfl⟩
abbrev cc5_stg7_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg5_1 : Ref sig .tc := ⟨.vmem, 67, rfl⟩
abbrev cc7_stg6_0 : Ref sig .tc := ⟨.vmem, 68, rfl⟩
abbrev cc7_stg6_1 : Ref sig .tc := ⟨.vmem, 69, rfl⟩
abbrev cc7_stg7_0 : Ref sig .tc := ⟨.vmem, 70, rfl⟩
abbrev cc7_stg7_1 : Ref sig .tc := ⟨.vmem, 71, rfl⟩
abbrev cc7_stg8_0 : Ref sig .tc := ⟨.vmem, 72, rfl⟩
abbrev cc7_stg8_1 : Ref sig .tc := ⟨.vmem, 73, rfl⟩
abbrev cc7_stg9_0 : Ref sig .tc := ⟨.vmem, 74, rfl⟩
abbrev cc7_stg9_1 : Ref sig .tc := ⟨.vmem, 75, rfl⟩
abbrev cc7_stg10_0 : Ref sig .tc := ⟨.vmem, 76, rfl⟩
abbrev cc7_stg10_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg3_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg2_1 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem6_0 : DmaSem sig := 39
abbrev cc5_sem6_1 : DmaSem sig := 40
abbrev cc5_sem7_0 : DmaSem sig := 41
abbrev cc5_sem7_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem7_0 : DmaSem sig := 53
abbrev cc6_sem7_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem3_1 : DmaSem sig := 62
abbrev cc7_sem4_0 : DmaSem sig := 63
abbrev cc7_sem4_1 : DmaSem sig := 64
abbrev cc7_sem5_0 : DmaSem sig := 65
abbrev cc7_sem5_1 : DmaSem sig := 66
abbrev cc7_sem6_0 : DmaSem sig := 67
abbrev cc7_sem6_1 : DmaSem sig := 68
abbrev cc7_sem7_0 : DmaSem sig := 69
abbrev cc7_sem7_1 : DmaSem sig := 70
abbrev cc7_sem8_0 : DmaSem sig := 71
abbrev cc7_sem8_1 : DmaSem sig := 72
abbrev cc7_sem9_0 : DmaSem sig := 73
abbrev cc7_sem9_1 : DmaSem sig := 74
abbrev cc7_sem10_0 : DmaSem sig := 75
abbrev cc7_sem10_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc8_sem3_0 : DmaSem sig := 83
abbrev cc8_sem3_1 : DmaSem sig := 84
abbrev cc9_sem0_0 : DmaSem sig := 85
abbrev cc9_sem0_1 : DmaSem sig := 86
abbrev cc9_sem1_0 : DmaSem sig := 87
abbrev cc9_sem2_0 : DmaSem sig := 88
abbrev cc9_sem2_1 : DmaSem sig := 89

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 16], ![false, false]⟩

def k1_mult1 (i : grid1.Coords) : BitVec 32 :=
  let arg0 : BitVec 32 := BitVec.ofNat 32 (i 0).val
  let c2_i32 : BitVec 32 := 2#32
  let v2 : BitVec 1 := Scalar.cmpi .eq arg0 c2_i32
  let c10288_i32 : BitVec 32 := 10288#32
  let c1_i32 : BitVec 32 := 1#32
  let v0 : BitVec 1 := Scalar.cmpi .eq arg0 c1_i32
  let c4096_i32 : BitVec 32 := 4096#32
  let c3072_i32 : BitVec 32 := 3072#32
  let v1 : BitVec 32 := Scalar.select v0 c4096_i32 c3072_i32
  let v3 : BitVec 32 := Scalar.select v2 c10288_i32 v1
  v3
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4096_i32 : BitVec 32 := 4096#32
  let c3072_i32 : BitVec 32 := 3072#32
  let v1 : BitVec 32 := Scalar.select v0 c4096_i32 c3072_i32
  let c2_i32 : BitVec 32 := 2#32
  let v2 : BitVec 1 := Scalar.cmpi .eq arg0 c2_i32
  let c10288_i32 : BitVec 32 := 10288#32
  let v3 : BitVec 32 := Scalar.select v2 c10288_i32 v1
  let v4 : BitVec 32 := v3
  let c0_i32 : BitVec 32 := 0#32
  let c0_i32_0 : BitVec 32 := 0#32
  ![v4.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def k2_mult1 (i : grid2.Coords) : BitVec 32 :=
  let arg0 : BitVec 32 := BitVec.ofNat 32 (i 0).val
  let c1_i32 : BitVec 32 := 1#32
  let v0 : BitVec 1 := Scalar.cmpi .eq arg0 c1_i32
  let c11312_i32 : BitVec 32 := 11312#32
  let c2048_i32 : BitVec 32 := 2048#32
  let v1 : BitVec 32 := Scalar.select v0 c11312_i32 c2048_i32
  v1
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11312_i32 : BitVec 32 := 11312#32
  let c2048_i32 : BitVec 32 := 2048#32
  let v1 : BitVec 32 := Scalar.select v0 c11312_i32 c2048_i32
  let v2 : BitVec 32 := v1
  let c0_i32 : BitVec 32 := 0#32
  let c0_i32_0 : BitVec 32 := 0#32
  ![v2.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 16], ![false, false]⟩

def k3_mult1 (i : grid3.Coords) : BitVec 32 :=
  let arg0 : BitVec 32 := BitVec.ofNat 32 (i 0).val
  let c3_i32 : BitVec 32 := 3#32
  let v4 : BitVec 1 := Scalar.cmpi .eq arg0 c3_i32
  let c12336_i32 : BitVec 32 := 12336#32
  let c2_i32 : BitVec 32 := 2#32
  let v2 : BitVec 1 := Scalar.cmpi .eq arg0 c2_i32
  let c9264_i32 : BitVec 32 := 9264#32
  let c1_i32 : BitVec 32 := 1#32
  let v0 : BitVec 1 := Scalar.cmpi .eq arg0 c1_i32
  let c6192_i32 : BitVec 32 := 6192#32
  let c5168_i32 : BitVec 32 := 5168#32
  let v1 : BitVec 32 := Scalar.select v0 c6192_i32 c5168_i32
  let v3 : BitVec 32 := Scalar.select v2 c9264_i32 v1
  let v5 : BitVec 32 := Scalar.select v4 c12336_i32 v3
  v5
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c6192_i32 : BitVec 32 := 6192#32
  let c5168_i32 : BitVec 32 := 5168#32
  let v1 : BitVec 32 := Scalar.select v0 c6192_i32 c5168_i32
  let c2_i32 : BitVec 32 := 2#32
  let v2 : BitVec 1 := Scalar.cmpi .eq arg0 c2_i32
  let c9264_i32 : BitVec 32 := 9264#32
  let v3 : BitVec 32 := Scalar.select v2 c9264_i32 v1
  let c3_i32 : BitVec 32 := 3#32
  let v4 : BitVec 1 := Scalar.cmpi .eq arg0 c3_i32
  let c12336_i32 : BitVec 32 := 12336#32
  let v5 : BitVec 32 := Scalar.select v4 c12336_i32 v3
  let v6 : BitVec 32 := v5
  let c0_i32 : BitVec 32 := 0#32
  let c0_i32_0 : BitVec 32 := 0#32
  ![v6.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 16], ![false, false]⟩

def k4_mult1 (i : grid4.Coords) : BitVec 32 :=
  let c7216_i32 : BitVec 32 := 7216#32
  let arg0 : BitVec 32 := BitVec.ofNat 32 (i 0).val
  let c512_i32 : BitVec 32 := 512#32
  let v0 : BitVec 32 := Scalar.muli arg0 c512_i32
  let v1 : BitVec 32 := Scalar.addi c7216_i32 v0
  v1
def k4_mult2 (i : grid4.Coords) : BitVec 32 :=
  let c8240_i32 : BitVec 32 := 8240#32
  let arg0 : BitVec 32 := BitVec.ofNat 32 (i 0).val
  let c512_i32 : BitVec 32 := 512#32
  let v0 : BitVec 32 := Scalar.muli arg0 c512_i32
  let v1 : BitVec 32 := Scalar.addi c8240_i32 v0
  v1
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c7216_i32 : BitVec 32 := 7216#32
  let v1 : BitVec 32 := Scalar.addi c7216_i32 v0
  let v2 : BitVec 32 := v1
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8240_i32 : BitVec 32 := 8240#32
  let v1 : BitVec 32 := Scalar.addi c8240_i32 v0
  let v2 : BitVec 32 := v1
  let c0_i32 : BitVec 32 := 0#32
  let c0_i32_0 : BitVec 32 := 0#32
  ![v2.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 16], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x32x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S31x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x256x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x256x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c2_i32 : BitVec 32 := 2#32
  let c0_i32 : BitVec 32 := 0#32
  ![arg0.toNat, c2_i32.toNat]

def cc6_transform_1 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_2 (i : grid6.Coords) : Fin 2 → Nat :=
  let arg0 : BitVec 32 := BitVec.ofNat 32 (i 0).val
  let c3_i32 : BitVec 32 := 3#32
  let c0_i32 : BitVec 32 := 0#32
  ![arg0.toNat, c3_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S8x128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x8 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨2, ![8, 32], ![false, false]⟩

def k7_mult1 (i : grid7.Coords) : BitVec 32 :=
  let c13360_i32 : BitVec 32 := 13360#32
  let arg0 : BitVec 32 := BitVec.ofNat 32 (i 0).val
  let c512_i32 : BitVec 32 := 512#32
  let v0 : BitVec 32 := Scalar.muli arg0 c512_i32
  let v1 : BitVec 32 := Scalar.addi c13360_i32 v0
  v1
def k7_mult2 (i : grid7.Coords) : BitVec 32 :=
  let c17456_i32 : BitVec 32 := 17456#32
  let arg0 : BitVec 32 := BitVec.ofNat 32 (i 0).val
  let c512_i32 : BitVec 32 := 512#32
  let v0 : BitVec 32 := Scalar.muli arg0 c512_i32
  let v1 : BitVec 32 := Scalar.addi c17456_i32 v0
  v1
def k7_mult3 (i : grid7.Coords) : BitVec 32 :=
  let c21552_i32 : BitVec 32 := 21552#32
  let arg0 : BitVec 32 := BitVec.ofNat 32 (i 0).val
  let c512_i32 : BitVec 32 := 512#32
  let v0 : BitVec 32 := Scalar.muli arg0 c512_i32
  let v1 : BitVec 32 := Scalar.addi c21552_i32 v0
  v1
def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c13360_i32 : BitVec 32 := 13360#32
  let v1 : BitVec 32 := Scalar.addi c13360_i32 v0
  let v2 : BitVec 32 := v1
  let c0_i32 : BitVec 32 := 0#32
  let c0_i32_0 : BitVec 32 := 0#32
  ![v2.toNat, c0_i32.toNat]

def cc7_transform_5 (i : grid7.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c17456_i32 : BitVec 32 := 17456#32
  let v1 : BitVec 32 := Scalar.addi c17456_i32 v0
  let v2 : BitVec 32 := v1
  let c0_i32 : BitVec 32 := 0#32
  let c0_i32_0 : BitVec 32 := 0#32
  ![v2.toNat, c0_i32.toNat]

def cc7_transform_6 (i : grid7.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c21552_i32 : BitVec 32 := 21552#32
  let v1 : BitVec 32 := Scalar.addi c21552_i32 v0
  let v2 : BitVec 32 := v1
  let c0_i32 : BitVec 32 := 0#32
  let c0_i32_0 : BitVec 32 := 0#32
  ![v2.toNat, c0_i32.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S512x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S512x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S512x4096 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S512x4096 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev stage7_6 : Fin 2 → Memref sig .tc .vmem S512x4096 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev stage7_7 : Fin 2 → Memref sig .tc .vmem S2048x512 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, false]

abbrev stage7_8 : Fin 2 → Memref sig .tc .vmem S1024x512 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, false]

abbrev stage7_9 : Fin 2 → Memref sig .tc .vmem S1024x512 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, false]

abbrev stage7_10 : Fin 2 → Memref sig .tc .vmem S512x512 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, true]

abbrev grid8 : Pipeline.Grid := ⟨2, ![16, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x4096 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x4096 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x4096 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]
-- ==== ReferenceIdeal.lean ====
abbrev S4x4096x4096 : Shape := ⟨3, ![4, 4096, 4096]⟩
abbrev S4096 : Shape := ⟨1, ![4096]⟩
abbrev S4x4096x2048 : Shape := ⟨3, ![4, 4096, 2048]⟩
abbrev S4096x25648 : Shape := ⟨2, ![4096, 25648]⟩
abbrev S31x1024 : Shape := ⟨2, ![31, 1024]⟩
abbrev S1024 : Shape := ⟨1, ![1024]⟩
abbrev S2048x4096 : Shape := ⟨2, ![2048, 4096]⟩
abbrev S1024x4096 : Shape := ⟨2, ![1024, 4096]⟩
abbrev S8x128x128 : Shape := ⟨3, ![8, 128, 128]⟩
abbrev S8x128 : Shape := ⟨2, ![8, 128]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x2048 : Shape := ⟨2, ![4096, 2048]⟩
abbrev S4096x1024 : Shape := ⟨2, ![4096, 1024]⟩
abbrev S4x4096x1024 : Shape := ⟨3, ![4, 4096, 1024]⟩
abbrev S4096x12288 : Shape := ⟨2, ![4096, 12288]⟩
abbrev S4x4096x12288 : Shape := ⟨3, ![4, 4096, 12288]⟩
abbrev S4x4126x1024 : Shape := ⟨3, ![4, 4126, 1024]⟩
abbrev S1x1024 : Shape := ⟨2, ![1, 1024]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096x3x4096 : Shape := ⟨4, ![4, 4096, 3, 4096]⟩
abbrev S4x4096x1x4096 : Shape := ⟨4, ![4, 4096, 1, 4096]⟩
abbrev S16384x4096 : Shape := ⟨2, ![16384, 4096]⟩

abbrev nBuf : Space → Nat
  | .hbm => 434
  | .vmem => 0
  | .smem => 0
  | _ => 0

abbrev hbmTy0_0 (i : Nat) : BufTy := match i % 128 with
  | 0 => ⟨S4x4096x4096, .f32⟩
  | 1 => ⟨S4096, .f32⟩
  | 2 => ⟨S4x4096x2048, .bf16⟩
  | 3 => ⟨S4096x25648, .f32⟩
  | 4 => ⟨S31x1024, .f32⟩
  | 5 => ⟨S1024, .f32⟩
  | 6 => ⟨S1024, .f32⟩
  | 7 => ⟨S1024, .f32⟩
  | 8 => ⟨S2048x4096, .f32⟩
  | 9 => ⟨S1024x4096, .f32⟩
  | 10 => ⟨S1024, .f32⟩
  | 11 => ⟨S1024, .f32⟩
  | 12 => ⟨S8x128x128, .f32⟩
  | 13 => ⟨S8x128, .f32⟩
  | 14 => ⟨S1024x4096, .f32⟩
  | 15 => ⟨S4096x4096, .f32⟩
  | 16 => ⟨S4096, .f32⟩
  | 17 => ⟨S4x4096x4096, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x4096, .f32⟩
  | 29 => ⟨S4x4096x4096, .f32⟩
  | 30 => ⟨S1x1x4096, .f32⟩
  | 31 => ⟨S4x4096x4096, .f32⟩
  | 32 => ⟨S4x4096x4096, .f32⟩
  | 33 => ⟨S4096x2048, .f32⟩
  | 34 => ⟨S4x4096x2048, .f32⟩
  | 35 => ⟨S4096x1024, .f32⟩
  | 36 => ⟨S4x4096x1024, .f32⟩
  | 37 => ⟨S4096x2048, .f32⟩
  | 38 => ⟨S4x4096x2048, .f32⟩
  | 39 => ⟨S4096x1024, .f32⟩
  | 40 => ⟨S4x4096x1024, .f32⟩
  | 41 => ⟨S4096x12288, .f32⟩
  | 42 => ⟨S4x4096x12288, .f32⟩
  | 43 => ⟨S4x4096x2048, .f32⟩
  | 44 => ⟨S4x4096x4096, .f32⟩
  | 45 => ⟨S4x4096x1024, .f32⟩
  | 46 => ⟨S4x4096x1024, .f32⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S_, .i32⟩
  | 57 => ⟨S_, .f32⟩
  | 58 => ⟨S4x4126x1024, .f32⟩
  | 59 => ⟨S4x4096x1024, .f32⟩
  | 60 => ⟨S1x1024, .f32⟩
  | 61 => ⟨S1024, .f32⟩
  | 62 => ⟨S1x1x1024, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S4x4096x1024, .f32⟩
  | 69 => ⟨S1x1024, .f32⟩
  | 70 => ⟨S1024, .f32⟩
  | 71 => ⟨S1x1x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S1x1024, .f32⟩
  | 77 => ⟨S1024, .f32⟩
  | 78 => ⟨S1x1x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S1x1024, .f32⟩
  | 84 => ⟨S1024, .f32⟩
  | 85 => ⟨S1x1x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1x1024, .f32⟩
  | 91 => ⟨S1024, .f32⟩
  | 92 => ⟨S1x1x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S1x1024, .f32⟩
  | 98 => ⟨S1024, .f32⟩
  | 99 => ⟨S1x1x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S1x1024, .f32⟩
  | 105 => ⟨S1024, .f32⟩
  | 106 => ⟨S1x1x1024, .f32⟩
  | 107 => ⟨S4x4096x1024, .f32⟩
  | 108 => ⟨S4x4096x1024, .f32⟩
  | 109 => ⟨S4x4096x1024, .f32⟩
  | 110 => ⟨S4x4096x1024, .f32⟩
  | 111 => ⟨S1x1024, .f32⟩
  | 112 => ⟨S1024, .f32⟩
  | 113 => ⟨S1x1x1024, .f32⟩
  | 114 => ⟨S4x4096x1024, .f32⟩
  | 115 => ⟨S4x4096x1024, .f32⟩
  | 116 => ⟨S4x4096x1024, .f32⟩
  | 117 => ⟨S4x4096x1024, .f32⟩
  | 118 => ⟨S1x1024, .f32⟩
  | 119 => ⟨S1024, .f32⟩
  | 120 => ⟨S1x1x1024, .f32⟩
  | 121 => ⟨S4x4096x1024, .f32⟩
  | 122 => ⟨S4x4096x1024, .f32⟩
  | 123 => ⟨S4x4096x1024, .f32⟩
  | 124 => ⟨S4x4096x1024, .f32⟩
  | 125 => ⟨S1x1024, .f32⟩
  | 126 => ⟨S1024, .f32⟩
  | 127 => ⟨S1x1x1024, .f32⟩
  | _ => ⟨S4x4096x4096, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S1x1024, .f32⟩
  | 5 => ⟨S1024, .f32⟩
  | 6 => ⟨S1x1x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S1x1024, .f32⟩
  | 12 => ⟨S1024, .f32⟩
  | 13 => ⟨S1x1x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S1x1024, .f32⟩
  | 19 => ⟨S1024, .f32⟩
  | 20 => ⟨S1x1x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S1x1024, .f32⟩
  | 117 => ⟨S1024, .f32⟩
  | 118 => ⟨S1x1x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S1x1024, .f32⟩
  | 124 => ⟨S1024, .f32⟩
  | 125 => ⟨S1x1x1024, .f32⟩
  | 126 => ⟨S4x4096x1024, .f32⟩
  | 127 => ⟨S4x4096x1024, .f32⟩
  | _ => ⟨S4x4096x4096, .f32⟩

abbrev hbmTy0_2 (i : Nat) : BufTy := match i % 128 with
  | 0 => ⟨S4x4096x1024, .f32⟩
  | 1 => ⟨S4x4096x1024, .f32⟩
  | 2 => ⟨S1x1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S1x1024, .f32⟩
  | 10 => ⟨S1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S1x1024, .f32⟩
  | 17 => ⟨S1024, .f32⟩
  | 18 => ⟨S1x1x1024, .f32⟩
  | 19 => ⟨S4x4096x1024, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S4x4096x1024, .f32⟩
  | 32 => ⟨S4x4096x1024, .f32⟩
  | 33 => ⟨S4x4096x1024, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S4x4096x1024, .f32⟩
  | 41 => ⟨S4x4096x1024, .f32⟩
  | 42 => ⟨S_, .f32⟩
  | 43 => ⟨S4x4096x1, .f32⟩
  | 44 => ⟨S4x4096x1, .f32⟩
  | 45 => ⟨S4x4096x1, .f32⟩
  | 46 => ⟨S4x4096x1024, .f32⟩
  | 47 => ⟨S4x4096x1024, .f32⟩
  | 48 => ⟨S1x1x1024, .f32⟩
  | 49 => ⟨S4x4096x1024, .f32⟩
  | 50 => ⟨S4x4096x1024, .f32⟩
  | 51 => ⟨S1x1x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x4096, .f32⟩
  | 74 => ⟨S4x4096x1024, .f32⟩
  | 75 => ⟨S4x4096x1024, .f32⟩
  | 76 => ⟨S_, .f32⟩
  | 77 => ⟨S4x4096, .f32⟩
  | 78 => ⟨S4x4096x1, .f32⟩
  | 79 => ⟨S_, .f32⟩
  | 80 => ⟨S4x4096x1, .f32⟩
  | 81 => ⟨S4x4096x1, .f32⟩
  | 82 => ⟨S4x4096x1024, .f32⟩
  | 83 => ⟨S4x4096x1024, .f32⟩
  | 84 => ⟨S4x4096x1024, .f32⟩
  | 85 => ⟨S_, .f32⟩
  | 86 => ⟨S4x4096, .f32⟩
  | 87 => ⟨S4x4096x1, .f32⟩
  | 88 => ⟨S_, .f32⟩
  | 89 => ⟨S4x4096x1, .f32⟩
  | 90 => ⟨S4x4096x1, .f32⟩
  | 91 => ⟨S4x4096x1024, .f32⟩
  | 92 => ⟨S4x4096x1024, .f32⟩
  | 93 => ⟨S_, .f32⟩
  | 94 => ⟨S4x4096x1, .f32⟩
  | 95 => ⟨S4x4096x1, .f32⟩
  | 96 => ⟨S4x4096x1, .f32⟩
  | 97 => ⟨S4x4096x1024, .f32⟩
  | 98 => ⟨S4x4096x1024, .f32⟩
  | 99 => ⟨S1x1x1024, .f32⟩
  | 100 => ⟨S4x4096x1024, .f32⟩
  | 101 => ⟨S4x4096x1024, .f32⟩
  | 102 => ⟨S1x1x1024, .f32⟩
  | 103 => ⟨S4x4096x1024, .f32⟩
  | 104 => ⟨S4x4096x1024, .f32⟩
  | 105 => ⟨S4x32x128x8x128, .f32⟩
  | 106 => ⟨S_, .f32⟩
  | 107 => ⟨S128x128, .f32⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .f32⟩
  | 115 => ⟨S128x128, .f32⟩
  | 116 => ⟨S128x128, .f32⟩
  | 117 => ⟨S1x128x128, .f32⟩
  | 118 => ⟨S8x128x128, .f32⟩
  | 119 => ⟨S8x128x128, .f32⟩
  | 120 => ⟨S8x4x32x128x128, .f32⟩
  | 121 => ⟨S4x32x128x8x128, .f32⟩
  | 122 => ⟨S128x8, .f32⟩
  | 123 => ⟨S1x1x128x8x1, .f32⟩
  | 124 => ⟨S4x32x128x8x128, .f32⟩
  | 125 => ⟨S4x32x128x8x128, .f32⟩
  | 126 => ⟨S4x4096x1024, .f32⟩
  | 127 => ⟨S4x4096x1024, .f32⟩
  | _ => ⟨S4x4096x4096, .f32⟩

abbrev hbmTy0_3 (i : Nat) : BufTy := match i % 128 with
  | 0 => ⟨S4x4096x1024, .f32⟩
  | 1 => ⟨S4x4096x1024, .f32⟩
  | 2 => ⟨S_, .f32⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S4x4096x1024, .f32⟩
  | 9 => ⟨S4x4096x1024, .f32⟩
  | 10 => ⟨S4x4096x4096, .f32⟩
  | 11 => ⟨S4x4096x12288, .f32⟩
  | 12 => ⟨S4x4096x12288, .f32⟩
  | 13 => ⟨S_, .f32⟩
  | 14 => ⟨S4x4096x12288, .f32⟩
  | 15 => ⟨S4x4096x12288, .f32⟩
  | 16 => ⟨S_, .f32⟩
  | 17 => ⟨S4x4096x12288, .f32⟩
  | 18 => ⟨S4x4096x12288, .f32⟩
  | 19 => ⟨S4x4096x3x4096, .f32⟩
  | 20 => ⟨S4x4096x1x4096, .f32⟩
  | 21 => ⟨S4x4096x4096, .f32⟩
  | 22 => ⟨S4x4096x4096, .f32⟩
  | 23 => ⟨S4x4096x1x4096, .f32⟩
  | 24 => ⟨S4x4096x4096, .f32⟩
  | 25 => ⟨S4x4096x4096, .f32⟩
  | 26 => ⟨S4x4096x4096, .f32⟩
  | 27 => ⟨S4x4096x1x4096, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S_, .f32⟩
  | 41 => ⟨S4x4096x1, .f32⟩
  | 42 => ⟨S4x4096x1, .f32⟩
  | 43 => ⟨S4x4096x1, .f32⟩
  | 44 => ⟨S4x4096x4096, .f32⟩
  | 45 => ⟨S4x4096x4096, .f32⟩
  | 46 => ⟨S1x1x4096, .f32⟩
  | 47 => ⟨S4x4096x4096, .f32⟩
  | 48 => ⟨S4x4096x4096, .f32⟩
  | 49 => ⟨S16384x4096, .f32⟩
  | _ => ⟨S4x4096x4096, .f32⟩

abbrev hbmTy (i : Nat) : BufTy := match i / 128 with
  | 0 => hbmTy0_0 i
  | 1 => hbmTy0_1 i
  | 2 => hbmTy0_2 i
  | 3 => hbmTy0_3 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_cst_5 : Ref sig .tc := ⟨.hbm, 281, rfl⟩
abbrev main_v256 : Ref sig .tc := ⟨.hbm, 282, rfl⟩
abbrev main_v257 : Ref sig .tc := ⟨.hbm, 283, rfl⟩
abbrev main_cst_6 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_cst_7 : Ref sig .tc := ⟨.hbm, 290, rfl⟩
abbrev main_v263 : Ref sig .tc := ⟨.hbm, 291, rfl⟩
abbrev main_v264 : Ref sig .tc := ⟨.hbm, 292, rfl⟩
abbrev main_cst_8 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_cst_9 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_call1_v0 : Ref sig .tc := ⟨.hbm, 310, rfl⟩
abbrev main_call1_v1 : Ref sig .tc := ⟨.hbm, 311, rfl⟩
abbrev main_call1_cst : Ref sig .tc := ⟨.hbm, 312, rfl⟩
abbrev main_call1_v2 : Ref sig .tc := ⟨.hbm, 313, rfl⟩
abbrev main_call1_v3 : Ref sig .tc := ⟨.hbm, 314, rfl⟩
abbrev main_call1_cst_0 : Ref sig .tc := ⟨.hbm, 315, rfl⟩
abbrev main_call1_v4 : Ref sig .tc := ⟨.hbm, 316, rfl⟩
abbrev main_call1_v5 : Ref sig .tc := ⟨.hbm, 317, rfl⟩
abbrev main_v280 : Ref sig .tc := ⟨.hbm, 318, rfl⟩
abbrev main_call2_v0 : Ref sig .tc := ⟨.hbm, 319, rfl⟩
abbrev main_call2_v1 : Ref sig .tc := ⟨.hbm, 320, rfl⟩
abbrev main_call2_cst : Ref sig .tc := ⟨.hbm, 321, rfl⟩
abbrev main_call2_v2 : Ref sig .tc := ⟨.hbm, 322, rfl⟩
abbrev main_call2_v3 : Ref sig .tc := ⟨.hbm, 323, rfl⟩
abbrev main_call2_cst_0 : Ref sig .tc := ⟨.hbm, 324, rfl⟩
abbrev main_call2_v4 : Ref sig .tc := ⟨.hbm, 325, rfl⟩
abbrev main_call2_v5 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_cst_10 : Ref sig .tc := ⟨.hbm, 332, rfl⟩
abbrev main_v286 : Ref sig .tc := ⟨.hbm, 333, rfl⟩
abbrev main_v287 : Ref sig .tc := ⟨.hbm, 334, rfl⟩
abbrev main_cst_11 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_cst_12 : Ref sig .tc := ⟨.hbm, 341, rfl⟩
abbrev main_v293 : Ref sig .tc := ⟨.hbm, 342, rfl⟩
abbrev main_v294 : Ref sig .tc := ⟨.hbm, 343, rfl⟩
abbrev main_cst_13 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_cst_14 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_cst_15 : Ref sig .tc := ⟨.hbm, 362, rfl⟩
abbrev main_v311 : Ref sig .tc := ⟨.hbm, 363, rfl⟩
abbrev main_call3_v0 : Ref sig .tc := ⟨.hbm, 364, rfl⟩
abbrev main_call3_c : Ref sig .tc := ⟨.hbm, 365, rfl⟩
abbrev main_call3_v1 : Ref sig .tc := ⟨.hbm, 366, rfl⟩
abbrev main_call3_v2 : Ref sig .tc := ⟨.hbm, 367, rfl⟩
abbrev main_call3_v3 : Ref sig .tc := ⟨.hbm, 368, rfl⟩
abbrev main_call3_v4 : Ref sig .tc := ⟨.hbm, 369, rfl⟩
abbrev main_call3_cst : Ref sig .tc := ⟨.hbm, 370, rfl⟩
abbrev main_call3_v5 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_call4_v0 : Ref sig .tc := ⟨.hbm, 384, rfl⟩
abbrev main_call4_v1 : Ref sig .tc := ⟨.hbm, 385, rfl⟩
abbrev main_call4_cst : Ref sig .tc := ⟨.hbm, 386, rfl⟩
abbrev main_call4_v2 : Ref sig .tc := ⟨.hbm, 387, rfl⟩
abbrev main_call4_v3 : Ref sig .tc := ⟨.hbm, 388, rfl⟩
abbrev main_call4_cst_0 : Ref sig .tc := ⟨.hbm, 389, rfl⟩
abbrev main_call4_v4 : Ref sig .tc := ⟨.hbm, 390, rfl⟩
abbrev main_call4_v5 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_cst_16 : Ref sig .tc := ⟨.hbm, 397, rfl⟩
abbrev main_v329 : Ref sig .tc := ⟨.hbm, 398, rfl⟩
abbrev main_v330 : Ref sig .tc := ⟨.hbm, 399, rfl⟩
abbrev main_cst_17 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_cst_18 : Ref sig .tc := ⟨.hbm, 418, rfl⟩
abbrev main_v348 : Ref sig .tc := ⟨.hbm, 419, rfl⟩
abbrev main_v349 : Ref sig .tc := ⟨.hbm, 420, rfl⟩
abbrev main_cst_19 : Ref sig .tc := ⟨.hbm, 421, rfl⟩
abbrev main_v350 : Ref sig .tc := ⟨.hbm, 422, rfl⟩
abbrev main_v351 : Ref sig .tc := ⟨.hbm, 423, rfl⟩
abbrev main_cst_20 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096 : Shape := ⟨1, ![4096]⟩
abbrev S4096x25648 : Shape := ⟨2, ![4096, 25648]⟩
abbrev S2x32x128 : Shape := ⟨3, ![2, 32, 128]⟩
abbrev S2x4096x128 : Shape := ⟨3, ![2, 4096, 128]⟩
abbrev S2x128x128 : Shape := ⟨3, ![2, 128, 128]⟩
abbrev S16384x4096 : Shape := ⟨2, ![16384, 4096]⟩
abbrev S25648x4096 : Shape := ⟨2, ![25648, 4096]⟩
abbrev S48x4096 : Shape := ⟨2, ![48, 4096]⟩
abbrev S3x4x4x4096 : Shape := ⟨4, ![3, 4, 4, 4096]⟩
abbrev S12x4x4096 : Shape := ⟨3, ![12, 4, 4096]⟩
abbrev S_ : Shape := ⟨0, ![]⟩
abbrev S12x8x4096 : Shape := ⟨3, ![12, 8, 4096]⟩
abbrev S96x4096 : Shape := ⟨2, ![96, 4096]⟩
abbrev S128x4096 : Shape := ⟨2, ![128, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x2048 : Shape := ⟨2, ![16384, 2048]⟩
abbrev S1024x4096 : Shape := ⟨2, ![1024, 4096]⟩
abbrev S1024x1024 : Shape := ⟨2, ![1024, 1024]⟩
abbrev S16384x3072 : Shape := ⟨2, ![16384, 3072]⟩
abbrev S16384x128 : Shape := ⟨2, ![16384, 128]⟩
abbrev S1024x128 : Shape := ⟨2, ![1024, 128]⟩
abbrev S4x4096x2048 : Shape := ⟨3, ![4, 4096, 2048]⟩
abbrev S8x4x256x128 : Shape := ⟨4, ![8, 4, 256, 128]⟩
abbrev S1x4096x128 : Shape := ⟨3, ![1, 4096, 128]⟩
abbrev S1x32x128 : Shape := ⟨3, ![1, 32, 128]⟩
abbrev S1x128x128 : Shape := ⟨3, ![1, 128, 128]⟩
abbrev S1x1x256x128 : Shape := ⟨4, ![1, 1, 256, 128]⟩
abbrev S256x128 : Shape := ⟨2, ![256, 128]⟩
abbrev S1x256x128 : Shape := ⟨3, ![1, 256, 128]⟩
abbrev S1x1x128 : Shape := ⟨3, ![1, 1, 128]⟩
abbrev S1x128 : Shape := ⟨2, ![1, 128]⟩
abbrev S128x128 : Shape := ⟨2, ![128, 128]⟩
abbrev S256x1 : Shape := ⟨2, ![256, 1]⟩

abbrev nBuf : Space → Nat
  | .hbm => 32
  | .vmem => 44
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x25648, .f32⟩
  | .hbm, ⟨3, _⟩ => ⟨S2x32x128, .f32⟩
  | .hbm, ⟨4, _⟩ => ⟨S2x4096x128, .f32⟩
  | .hbm, ⟨5, _⟩ => ⟨S2x128x128, .f32⟩
  | .hbm, ⟨6, _⟩ => ⟨S16384x4096, .f32⟩
  | .hbm, ⟨7, _⟩ => ⟨S25648x4096, .f32⟩
  | .hbm, ⟨8, _⟩ => ⟨S25648x4096, .bf16⟩
  | .hbm, ⟨9, _⟩ => ⟨S48x4096, .f32⟩
  | .hbm, ⟨10, _⟩ => ⟨S3x4x4x4096, .f32⟩
  | .hbm, ⟨11, _⟩ => ⟨S3x4x4x4096, .f32⟩
  | .hbm, ⟨12, _⟩ => ⟨S12x4x4096, .f32⟩
  | .hbm, ⟨13, _⟩ => ⟨S_, .i32⟩
  | .hbm, ⟨14, _⟩ => ⟨S_, .f32⟩
  | .hbm, ⟨15, _⟩ => ⟨S12x8x4096, .f32⟩
  | .hbm, ⟨16, _⟩ => ⟨S96x4096, .f32⟩
  | .hbm, ⟨17, _⟩ => ⟨S_, .i32⟩
  | .hbm, ⟨18, _⟩ => ⟨S_, .f32⟩
  | .hbm, ⟨19, _⟩ => ⟨S128x4096, .f32⟩
  | .hbm, ⟨20, _⟩ => ⟨S128x4096, .bf16⟩
  | .hbm, ⟨21, _⟩ => ⟨S1x4096, .f32⟩
  | .hbm, ⟨22, _⟩ => ⟨S16384x4096, .bf16⟩
  | .hbm, ⟨23, _⟩ => ⟨S16384x2048, .bf16⟩
  | .hbm, ⟨24, _⟩ => ⟨S16384x3072, .bf16⟩
  | .hbm, ⟨25, _⟩ => ⟨S16384x2048, .f32⟩
  | .hbm, ⟨26, _⟩ => ⟨S16384x4096, .bf16⟩
  | .hbm, ⟨27, _⟩ => ⟨S16384x128, .f32⟩
  | .hbm, ⟨28, _⟩ => ⟨S4x4096x2048, .f32⟩
  | .hbm, ⟨29, _⟩ => ⟨S2x4096x128, .bf16⟩
  | .hbm, ⟨30, _⟩ => ⟨S2x128x128, .bf16⟩
  | .hbm, ⟨31, _⟩ => ⟨S8x4x256x128, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1024x1024, .bf16⟩
  | .local _ .vmem, ⟨16, _⟩ => ⟨S1024x1024, .bf16⟩
  | .local _ .vmem, ⟨17, _⟩ => ⟨S1024x4096, .bf16⟩
  | .local _ .vmem, ⟨18, _⟩ => ⟨S1024x4096, .bf16⟩
  | .local _ .vmem, ⟨19, _⟩ => ⟨S1024x4096, .bf16⟩
  | .local _ .vmem, ⟨20, _⟩ => ⟨S1024x4096, .bf16⟩
  | .local _ .vmem, ⟨21, _⟩ => ⟨S1024x1024, .f32⟩
  | .local _ .vmem, ⟨22, _⟩ => ⟨S1024x1024, .f32⟩
  | .local _ .vmem, ⟨23, _⟩ => ⟨S1024x4096, .bf16⟩
  | .local _ .vmem, ⟨24, _⟩ => ⟨S1024x4096, .bf16⟩
  | .local _ .vmem, ⟨25, _⟩ => ⟨S1024x4096, .bf16⟩
  | .local _ .vmem, ⟨26, _⟩ => ⟨S1024x4096, .bf16⟩
  | .local _ .vmem, ⟨27, _⟩ => ⟨S1024x1024, .bf16⟩
  | .local _ .vmem, ⟨28, _⟩ => ⟨S1024x1024, .bf16⟩
  | .local _ .vmem, ⟨29, _⟩ => ⟨S1024x4096, .bf16⟩
  | .local _ .vmem, ⟨30, _⟩ => ⟨S1024x4096, .bf16⟩
  | .local _ .vmem, ⟨31, _⟩ => ⟨S128x4096, .bf16⟩
  | .local _ .vmem, ⟨32, _⟩ => ⟨S1024x128, .f32⟩
  | .local _ .vmem, ⟨33, _⟩ => ⟨S1024x128, .f32⟩
  | .local _ .vmem, ⟨34, _⟩ => ⟨S1x4096x128, .f32⟩
  | .local _ .vmem, ⟨35, _⟩ => ⟨S1x4096x128, .f32⟩
  | .local _ .vmem, ⟨36, _⟩ => ⟨S1x32x128, .f32⟩
  | .local _ .vmem, ⟨37, _⟩ => ⟨S1x32x128, .f32⟩
  | .local _ .vmem, ⟨38, _⟩ => ⟨S1x4096x128, .bf16⟩
  | .local _ .vmem, ⟨39, _⟩ => ⟨S1x4096x128, .bf16⟩
  | .local _ .vmem, ⟨40, _⟩ => ⟨S1x128x128, .bf16⟩
  | .local _ .vmem, ⟨41, _⟩ => ⟨S1x128x128, .bf16⟩
  | .local _ .vmem, ⟨42, _⟩ => ⟨S1x1x256x128, .bf16⟩
  | .local _ .vmem, ⟨43, _⟩ => ⟨S1x1x256x128, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg3_1 : Ref sig .tc := ⟨.vmem, 41, rfl⟩
abbrev cc6_stg4_0 : Ref sig .tc := ⟨.vmem, 42, rfl⟩
abbrev cc6_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc6_sem3_0 : DmaSem sig := 40
abbrev cc6_sem3_1 : DmaSem sig := 41
abbrev cc6_sem4_0 : DmaSem sig := 42
abbrev cc6_sem4_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_mult1 (i : grid1.Coords) : BitVec 32 :=
  let arg0 : BitVec 32 := BitVec.ofNat 32 (i 0).val
  let c1_i32 : BitVec 32 := 1#32
  let v0 : BitVec 1 := Scalar.cmpi .eq arg0 c1_i32
  let c1024_i32 : BitVec 32 := 1024#32
  let c0_i32 : BitVec 32 := 0#32
  let v1 : BitVec 32 := Scalar.select v0 c1024_i32 c0_i32
  v1
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1024_i32 : BitVec 32 := 1024#32
  let c0_i32 : BitVec 32 := 0#32
  let v1 : BitVec 32 := Scalar.select v0 c1024_i32 c0_i32
  let v2 : BitVec 32 := v1
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 16], ![false, false]⟩

def k2_mult1 (i : grid2.Coords) : BitVec 32 :=
  let arg0 : BitVec 32 := BitVec.ofNat 32 (i 0).val
  let c2_i32 : BitVec 32 := 2#32
  let v2 : BitVec 1 := Scalar.cmpi .eq arg0 c2_i32
  let c10288_i32 : BitVec 32 := 10288#32
  let c1_i32 : BitVec 32 := 1#32
  let v0 : BitVec 1 := Scalar.cmpi .eq arg0 c1_i32
  let c4096_i32 : BitVec 32 := 4096#32
  let c3072_i32 : BitVec 32 := 3072#32
  let v1 : BitVec 32 := Scalar.select v0 c4096_i32 c3072_i32
  let v3 : BitVec 32 := Scalar.select v2 c10288_i32 v1
  v3
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4096_i32 : BitVec 32 := 4096#32
  let c3072_i32 : BitVec 32 := 3072#32
  let v1 : BitVec 32 := Scalar.select v0 c4096_i32 c3072_i32
  let c2_i32 : BitVec 32 := 2#32
  let v2 : BitVec 1 := Scalar.cmpi .eq arg0 c2_i32
  let c10288_i32 : BitVec 32 := 10288#32
  let v3 : BitVec 32 := Scalar.select v2 c10288_i32 v1
  let v4 : BitVec 32 := v3
  let c0_i32 : BitVec 32 := 0#32
  let c0_i32_0 : BitVec 32 := 0#32
  ![v4.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 16], ![false, false]⟩

def k3_mult1 (i : grid3.Coords) : BitVec 32 :=
  let arg0 : BitVec 32 := BitVec.ofNat 32 (i 0).val
  let c1_i32 : BitVec 32 := 1#32
  let v0 : BitVec 1 := Scalar.cmpi .eq arg0 c1_i32
  let c11312_i32 : BitVec 32 := 11312#32
  let c2048_i32 : BitVec 32 := 2048#32
  let v1 : BitVec 32 := Scalar.select v0 c11312_i32 c2048_i32
  v1
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11312_i32 : BitVec 32 := 11312#32
  let c2048_i32 : BitVec 32 := 2048#32
  let v1 : BitVec 32 := Scalar.select v0 c11312_i32 c2048_i32
  let v2 : BitVec 32 := v1
  let c0_i32 : BitVec 32 := 0#32
  let c0_i32_0 : BitVec 32 := 0#32
  ![v2.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 16], ![false, false]⟩

def k4_mult1 (i : grid4.Coords) : BitVec 32 :=
  let arg0 : BitVec 32 := BitVec.ofNat 32 (i 0).val
  let c3_i32 : BitVec 32 := 3#32
  let v4 : BitVec 1 := Scalar.cmpi .eq arg0 c3_i32
  let c12336_i32 : BitVec 32 := 12336#32
  let c2_i32 : BitVec 32 := 2#32
  let v2 : BitVec 1 := Scalar.cmpi .eq arg0 c2_i32
  let c9264_i32 : BitVec 32 := 9264#32
  let c1_i32 : BitVec 32 := 1#32
  let v0 : BitVec 1 := Scalar.cmpi .eq arg0 c1_i32
  let c6192_i32 : BitVec 32 := 6192#32
  let c5168_i32 : BitVec 32 := 5168#32
  let v1 : BitVec 32 := Scalar.select v0 c6192_i32 c5168_i32
  let v3 : BitVec 32 := Scalar.select v2 c9264_i32 v1
  let v5 : BitVec 32 := Scalar.select v4 c12336_i32 v3
  v5
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c6192_i32 : BitVec 32 := 6192#32
  let c5168_i32 : BitVec 32 := 5168#32
  let v1 : BitVec 32 := Scalar.select v0 c6192_i32 c5168_i32
  let c2_i32 : BitVec 32 := 2#32
  let v2 : BitVec 1 := Scalar.cmpi .eq arg0 c2_i32
  let c9264_i32 : BitVec 32 := 9264#32
  let v3 : BitVec 32 := Scalar.select v2 c9264_i32 v1
  let c3_i32 : BitVec 32 := 3#32
  let v4 : BitVec 1 := Scalar.cmpi .eq arg0 c3_i32
  let c12336_i32 : BitVec 32 := 12336#32
  let v5 : BitVec 32 := Scalar.select v4 c12336_i32 v3
  let v6 : BitVec 32 := v5
  let c0_i32 : BitVec 32 := 0#32
  let c0_i32_0 : BitVec 32 := 0#32
  ![v6.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 16], ![false, false]⟩

def k5_mult1 : BitVec 32 :=
  let c0_i32 : BitVec 32 := 0#32
  c0_i32
def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := c0_i32
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S128x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨3, ![2, 4, 4], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

abbrev stage6_0 : Fin 2 → Memref sig .tc .vmem S1x4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, true]

abbrev stage6_1 : Fin 2 → Memref sig .tc .vmem S1x32x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, false]

abbrev stage6_2 : Fin 2 → Memref sig .tc .vmem S1x4096x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, false]

abbrev stage6_3 : Fin 2 → Memref sig .tc .vmem S1x128x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false, false]

abbrev stage6_4 : Fin 2 → Memref sig .tc .vmem S1x1x256x128 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, true]
-- ==== Reference2Ideal.lean ====
abbrev S4x4096x4096 : Shape := ⟨3, ![4, 4096, 4096]⟩
abbrev S4096 : Shape := ⟨1, ![4096]⟩
abbrev S4096x25648 : Shape := ⟨2, ![4096, 25648]⟩
abbrev S2x32x128 : Shape := ⟨3, ![2, 32, 128]⟩
abbrev S2x4096x128 : Shape := ⟨3, ![2, 4096, 128]⟩
abbrev S2x128x128 : Shape := ⟨3, ![2, 128, 128]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x2048 : Shape := ⟨2, ![4096, 2048]⟩
abbrev S4x4096x2048 : Shape := ⟨3, ![4, 4096, 2048]⟩
abbrev S4096x3072 : Shape := ⟨2, ![4096, 3072]⟩
abbrev S4x4096x3072 : Shape := ⟨3, ![4, 4096, 3072]⟩
abbrev S4096x48 : Shape := ⟨2, ![4096, 48]⟩
abbrev S4x4096x48 : Shape := ⟨3, ![4, 4096, 48]⟩
abbrev S4096x1024 : Shape := ⟨2, ![4096, 1024]⟩
abbrev S4x4096x1024 : Shape := ⟨3, ![4, 4096, 1024]⟩
abbrev S16384x48 : Shape := ⟨2, ![16384, 48]⟩
abbrev S16384x3x4x4 : Shape := ⟨4, ![16384, 3, 4, 4]⟩
abbrev S16384x3x4x8 : Shape := ⟨4, ![16384, 3, 4, 8]⟩
abbrev S16384x96 : Shape := ⟨2, ![16384, 96]⟩
abbrev S16384x128 : Shape := ⟨2, ![16384, 128]⟩
abbrev S4x4096x6x4x128 : Shape := ⟨5, ![4, 4096, 6, 4, 128]⟩
abbrev S4x4096x1x4x128 : Shape := ⟨5, ![4, 4096, 1, 4, 128]⟩
abbrev S4x4096x4x128 : Shape := ⟨4, ![4, 4096, 4, 128]⟩
abbrev S1x32x128 : Shape := ⟨3, ![1, 32, 128]⟩
abbrev S32x128 : Shape := ⟨2, ![32, 128]⟩
abbrev S1x4096x128 : Shape := ⟨3, ![1, 4096, 128]⟩
abbrev S4096x128 : Shape := ⟨2, ![4096, 128]⟩
abbrev S1x128x128 : Shape := ⟨3, ![1, 128, 128]⟩
abbrev S128x128 : Shape := ⟨2, ![128, 128]⟩
abbrev S255 : Shape := ⟨1, ![255]⟩
abbrev S255x1 : Shape := ⟨2, ![255, 1]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S4x255x32x4x128 : Shape := ⟨5, ![4, 255, 32, 4, 128]⟩
abbrev S1x1x32x1x128 : Shape := ⟨5, ![1, 1, 32, 1, 128]⟩
abbrev S4x255x4x32x128 : Shape := ⟨5, ![4, 255, 4, 32, 128]⟩
abbrev S4x255x4x4096 : Shape := ⟨4, ![4, 255, 4, 4096]⟩
abbrev S4x255x4x128 : Shape := ⟨4, ![4, 255, 4, 128]⟩
abbrev S8x255x4x128 : Shape := ⟨4, ![8, 255, 4, 128]⟩
abbrev S8x4x255x128 : Shape := ⟨4, ![8, 4, 255, 128]⟩
abbrev S8x4x256x128 : Shape := ⟨4, ![8, 4, 256, 128]⟩
abbrev S16384x2048 : Shape := ⟨2, ![16384, 2048]⟩
abbrev S16384x3072 : Shape := ⟨2, ![16384, 3072]⟩
abbrev S16384x4096 : Shape := ⟨2, ![16384, 4096]⟩

abbrev nBuf : Space → Nat
  | .hbm => 174
  | .vmem => 0
  | .smem => 0
  | _ => 0

abbrev hbmTy0_0 (i : Nat) : BufTy := match i % 128 with
  | 0 => ⟨S4x4096x4096, .f32⟩
  | 1 => ⟨S4096, .f32⟩
  | 2 => ⟨S4096x25648, .f32⟩
  | 3 => ⟨S2x32x128, .f32⟩
  | 4 => ⟨S2x4096x128, .f32⟩
  | 5 => ⟨S2x128x128, .f32⟩
  | 6 => ⟨S4x4096x4096, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x4096, .f32⟩
  | 18 => ⟨S4x4096x4096, .f32⟩
  | 19 => ⟨S1x1x4096, .f32⟩
  | 20 => ⟨S4x4096x4096, .f32⟩
  | 21 => ⟨S4x4096x4096, .f32⟩
  | 22 => ⟨S4096x2048, .f32⟩
  | 23 => ⟨S4x4096x2048, .f32⟩
  | 24 => ⟨S4096x3072, .f32⟩
  | 25 => ⟨S4x4096x3072, .f32⟩
  | 26 => ⟨S4096x48, .f32⟩
  | 27 => ⟨S4x4096x48, .f32⟩
  | 28 => ⟨S4096x2048, .f32⟩
  | 29 => ⟨S4x4096x2048, .f32⟩
  | 30 => ⟨S4096x1024, .f32⟩
  | 31 => ⟨S4x4096x1024, .f32⟩
  | 32 => ⟨S4096x2048, .f32⟩
  | 33 => ⟨S4x4096x2048, .f32⟩
  | 34 => ⟨S4096x1024, .f32⟩
  | 35 => ⟨S4x4096x1024, .f32⟩
  | 36 => ⟨S4x4096x1024, .f32⟩
  | 37 => ⟨S4x4096x2048, .f32⟩
  | 38 => ⟨S4x4096x1024, .f32⟩
  | 39 => ⟨S4x4096x1024, .f32⟩
  | 40 => ⟨S4x4096x4096, .f32⟩
  | 41 => ⟨S16384x48, .f32⟩
  | 42 => ⟨S16384x48, .f32⟩
  | 43 => ⟨S16384x48, .f32⟩
  | 44 => ⟨S_, .f32⟩
  | 45 => ⟨S16384x48, .f32⟩
  | 46 => ⟨S16384x48, .f32⟩
  | 47 => ⟨S_, .f32⟩
  | 48 => ⟨S16384x48, .f32⟩
  | 49 => ⟨S16384x48, .f32⟩
  | 50 => ⟨S16384x3x4x4, .f32⟩
  | 51 => ⟨S16384x3x4x4, .f32⟩
  | 52 => ⟨S_, .f32⟩
  | 53 => ⟨S_, .f32⟩
  | 54 => ⟨S16384x3x4x8, .f32⟩
  | 55 => ⟨S16384x96, .f32⟩
  | 56 => ⟨S_, .f32⟩
  | 57 => ⟨S_, .f32⟩
  | 58 => ⟨S16384x128, .f32⟩
  | 59 => ⟨S4x4096x6x4x128, .f32⟩
  | 60 => ⟨S4x4096x1x4x128, .f32⟩
  | 61 => ⟨S4x4096x4x128, .f32⟩
  | 62 => ⟨S4x4096x6x4x128, .f32⟩
  | 63 => ⟨S4x4096x1x4x128, .f32⟩
  | 64 => ⟨S4x4096x4x128, .f32⟩
  | 65 => ⟨S1x32x128, .f32⟩
  | 66 => ⟨S32x128, .f32⟩
  | 67 => ⟨S1x4096x128, .f32⟩
  | 68 => ⟨S4096x128, .f32⟩
  | 69 => ⟨S1x128x128, .f32⟩
  | 70 => ⟨S128x128, .f32⟩
  | 71 => ⟨S255, .i32⟩
  | 72 => ⟨S255x1, .i32⟩
  | 73 => ⟨S_, .i32⟩
  | 74 => ⟨S255x1, .i32⟩
  | 75 => ⟨S255x1, .i32⟩
  | 76 => ⟨S32, .i32⟩
  | 77 => ⟨S1x32, .i32⟩
  | 78 => ⟨S255x32, .i32⟩
  | 79 => ⟨S255x32, .i32⟩
  | 80 => ⟨S255x32, .i32⟩
  | 81 => ⟨S_, .i32⟩
  | 82 => ⟨S255x32, .i32⟩
  | 83 => ⟨S255x32, .i1⟩
  | 84 => ⟨S_, .i32⟩
  | 85 => ⟨S255x32, .i32⟩
  | 86 => ⟨S255x32, .i32⟩
  | 87 => ⟨S255x32, .i32⟩
  | 88 => ⟨S255x32x1, .i32⟩
  | 89 => ⟨S4x255x32x4x128, .f32⟩
  | 90 => ⟨S1x1x32x1x128, .f32⟩
  | 91 => ⟨S4x255x32x4x128, .f32⟩
  | 92 => ⟨S4x255x32x4x128, .f32⟩
  | 93 => ⟨S4x255x4x32x128, .f32⟩
  | 94 => ⟨S4x255x4x4096, .f32⟩
  | 95 => ⟨S4x255x4x128, .f32⟩
  | 96 => ⟨S4x255x4x128, .f32⟩
  | 97 => ⟨S4x255x4x128, .f32⟩
  | 98 => ⟨S_, .f32⟩
  | 99 => ⟨S4x255x4x128, .f32⟩
  | 100 => ⟨S4x255x4x128, .f32⟩
  | 101 => ⟨S_, .f32⟩
  | 102 => ⟨S4x255x4x128, .f32⟩
  | 103 => ⟨S4x255x4x128, .f32⟩
  | 104 => ⟨S4x255x4x128, .f32⟩
  | 105 => ⟨S4x255x4x128, .f32⟩
  | 106 => ⟨S1x32x128, .f32⟩
  | 107 => ⟨S32x128, .f32⟩
  | 108 => ⟨S1x4096x128, .f32⟩
  | 109 => ⟨S4096x128, .f32⟩
  | 110 => ⟨S1x128x128, .f32⟩
  | 111 => ⟨S128x128, .f32⟩
  | 112 => ⟨S255, .i32⟩
  | 113 => ⟨S255x1, .i32⟩
  | 114 => ⟨S_, .i32⟩
  | 115 => ⟨S255x1, .i32⟩
  | 116 => ⟨S255x1, .i32⟩
  | 117 => ⟨S32, .i32⟩
  | 118 => ⟨S1x32, .i32⟩
  | 119 => ⟨S255x32, .i32⟩
  | 120 => ⟨S255x32, .i32⟩
  | 121 => ⟨S255x32, .i32⟩
  | 122 => ⟨S_, .i32⟩
  | 123 => ⟨S255x32, .i32⟩
  | 124 => ⟨S255x32, .i1⟩
  | 125 => ⟨S_, .i32⟩
  | 126 => ⟨S255x32, .i32⟩
  | 127 => ⟨S255x32, .i32⟩
  | _ => ⟨S4x4096x4096, .f32⟩

abbrev hbmTy0_1 (i : Nat) : BufTy := match i % 128 with
  | 0 => ⟨S255x32, .i32⟩
  | 1 => ⟨S255x32x1, .i32⟩
  | 2 => ⟨S4x255x32x4x128, .f32⟩
  | 3 => ⟨S1x1x32x1x128, .f32⟩
  | 4 => ⟨S4x255x32x4x128, .f32⟩
  | 5 => ⟨S4x255x32x4x128, .f32⟩
  | 6 => ⟨S4x255x4x32x128, .f32⟩
  | 7 => ⟨S4x255x4x4096, .f32⟩
  | 8 => ⟨S4x255x4x128, .f32⟩
  | 9 => ⟨S4x255x4x128, .f32⟩
  | 10 => ⟨S4x255x4x128, .f32⟩
  | 11 => ⟨S_, .f32⟩
  | 12 => ⟨S4x255x4x128, .f32⟩
  | 13 => ⟨S4x255x4x128, .f32⟩
  | 14 => ⟨S_, .f32⟩
  | 15 => ⟨S4x255x4x128, .f32⟩
  | 16 => ⟨S4x255x4x128, .f32⟩
  | 17 => ⟨S4x255x4x128, .f32⟩
  | 18 => ⟨S4x255x4x128, .f32⟩
  | 19 => ⟨S8x255x4x128, .f32⟩
  | 20 => ⟨S8x4x255x128, .f32⟩
  | 21 => ⟨S_, .i32⟩
  | 22 => ⟨S_, .f32⟩
  | 23 => ⟨S8x4x256x128, .f32⟩
  | 24 => ⟨S_, .f32⟩
  | 25 => ⟨S4x4096x2048, .f32⟩
  | 26 => ⟨S4x4096x2048, .f32⟩
  | 27 => ⟨S16384x2048, .f32⟩
  | 28 => ⟨S16384x2048, .bf16⟩
  | 29 => ⟨S4x4096x3072, .f32⟩
  | 30 => ⟨S16384x3072, .f32⟩
  | 31 => ⟨S16384x3072, .bf16⟩
  | 32 => ⟨S4x4096x2048, .f32⟩
  | 33 => ⟨S16384x2048, .f32⟩
  | 34 => ⟨S4x4096x4096, .f32⟩
  | 35 => ⟨S4x4096x4096, .f32⟩
  | 36 => ⟨S_, .f32⟩
  | 37 => ⟨S4x4096x4096, .f32⟩
  | 38 => ⟨S4x4096x4096, .f32⟩
  | 39 => ⟨S_, .f32⟩
  | 40 => ⟨S4x4096x4096, .f32⟩
  | 41 => ⟨S4x4096x4096, .f32⟩
  | 42 => ⟨S4x4096x4096, .f32⟩
  | 43 => ⟨S16384x4096, .f32⟩
  | 44 => ⟨S16384x4096, .bf16⟩
  | 45 => ⟨S8x4x256x128, .bf16⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_call0_v0 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_call1_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_6 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_8 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_9 : Ref sig .tc := ⟨.hbm, 122, rfl⟩
abbrev main_v95 : Ref sig .tc := ⟨.hbm, 123, rfl⟩
abbrev main_v96 : Ref sig .tc := ⟨.hbm, 124, rfl⟩
abbrev main_c_10 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_11 : Ref sig .tc := ⟨.hbm, 149, rfl⟩
abbrev main_call4_v0 : Ref sig .tc := ⟨.hbm, 150, rfl⟩
abbrev main_v112 : Ref sig .tc := ⟨.hbm, 151, rfl⟩
abbrev main_cst_12 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩

abbrev nD : Nat := 1
abbrev τ : Topo := Topo.v7x

variable {F : FTy → Type} [FloatOps F]
-- ==== Proof.Spec.lean ====
module

public import Idealize.ShloMosaic.Lib.Pointwise

@[expose] public section

noncomputable section

namespace Cert.Spec

open Idealize.ShloMosaic

/-- The root-mean-square norm of one token's row, scaled by the gain. -/
def rms (x g : Fin 4096 → EReal) (d : Fin 4096) : EReal :=
  x d * Ideal.rsqrt (Ideal.div (∑ k, x k * x k) (Ideal.ofBits .f32 0x45800000#32) + Ideal.ofBits .f32 0x358637BD#32) * g d

/-- The layer norm of one token's row of 1024 channels, with gain and shift. -/
def ln (v g b : Fin 1024 → EReal) (d : Fin 1024) : EReal :=
  (v d - Ideal.div (∑ k, v k) (Ideal.ofBits .f32 0x44800000#32))
    * Ideal.rsqrt (Ideal.div (∑ e, (v e - Ideal.div (∑ k, v k) (Ideal.ofBits .f32 0x44800000#32))
        * (v e - Ideal.div (∑ k, v k) (Ideal.ofBits .f32 0x44800000#32))) (Ideal.ofBits .f32 0x44800000#32)
      + Ideal.ofBits .f32 0x3727C5AC#32) * g d + b d

/-- The convolution of one channel at one token: its 31 taps, added in order. -/
def taps (e : ℕ → EReal) (w : Fin 31 → EReal) : EReal :=
  0
    + e 0 * w 0
    + e 1 * w 1
    + e 2 * w 2
    + e 3 * w 3
    + e 4 * w 4
    + e 5 * w 5
    + e 6 * w 6
    + e 7 * w 7
    + e 8 * w 8
    + e 9 * w 9
    + e 10 * w 10
    + e 11 * w 11
    + e 12 * w 12
    + e 13 * w 13
    + e 14 * w 14
    + e 15 * w 15
    + e 16 * w 16
    + e 17 * w 17
    + e 18 * w 18
    + e 19 * w 19
    + e 20 * w 20
    + e 21 * w 21
    + e 22 * w 22
    + e 23 * w 23
    + e 24 * w 24
    + e 25 * w 25
    + e 26 * w 26
    + e 27 * w 27
    + e 28 * w 28
    + e 29 * w 29
    + e 30 * w 30

theorem taps_congr {e e' : ℕ → EReal} {w : Fin 31 → EReal} (h : ∀ k, k < 31 → e k = e' k) : taps e w = taps e' w := by
  unfold taps
  rw [h 0 (by omega), h 1 (by omega), h 2 (by omega), h 3 (by omega), h 4 (by omega), h 5 (by omega), h 6 (by omega), h 7 (by omega), h 8 (by omega), h 9 (by omega), h 10 (by omega), h 11 (by omega), h 12 (by omega), h 13 (by omega), h 14 (by omega), h 15 (by omega), h 16 (by omega), h 17 (by omega), h 18 (by omega), h 19 (by omega), h 20 (by omega), h 21 (by omega), h 22 (by omega), h 23 (by omega), h 24 (by omega), h 25 (by omega), h 26 (by omega), h 27 (by omega), h 28 (by omega), h 29 (by omega), h 30 (by omega)]

/-- The product of a row with a column. -/
def dot {n : ℕ} (a b : Fin n → EReal) : EReal := ∑ k, a k * b k

theorem dot_congr {n : ℕ} {a b a' b' : Fin n → EReal} (ha : ∀ k, a k = a' k) (hb : ∀ k, b k = b' k) : dot a b = dot a' b' :=
  congrArg₂ dot (funext ha) (funext hb)

/-- The logistic function. -/
def sigm (x : EReal) : EReal := Ideal.div 1 (1 + Ideal.exp (-x))

/-- The SiLU. -/
def silu (x : EReal) : EReal := x * sigm x

/-- The logistic function and the SiLU as the calls write them, with the negation as a difference from zero. -/
theorem sigm_of {s x : EReal} (h : s = x) : Ideal.div 1 (1 + Ideal.exp (0 - s)) = sigm x := by
  rw [h, sigm, sub_eq_add_neg, zero_add]

theorem silu_of {s x : EReal} (h : s = x) : s * Ideal.div 1 (1 + Ideal.exp (0 - s)) = silu x := by
  rw [silu, ← sigm_of h, h]

end Cert.Spec
-- ==== Proof.Part.Rms.lean ====
module

public import proofs.«01_k».proof.Proof.Gen.KernelIdeal.Frame.Region0
public import Idealize.ShloMosaic.Lib.Pipeline.ValueKit
public import proofs.«01_k».proof.Proof.Spec

@[expose] public section

set_option maxRecDepth 16384

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

/-- The array the first call leaves: every row normalised. -/
def G0 (x : FVec Ideal S16384x4096 .f32) (g : FVec Ideal S1x4096 .f32) : FVec Ideal S16384x4096 .bf16 := fun i =>
  Cert.Spec.rms (fun k => x (ix2 (i 0) k)) (fun k => g (ix2 0 k)) (i 1)

theorem final0 (c : Dev nD) : (dat0 V c).arrAt 2 cfg0.N = G0 (V c main_v0) (V c main_v3) := by
  refine (dat0 V c).arrAt_eq_of_covers 2 _ (by decide +kernel) fun t hf y => ?_
  blk_simp
  rw [after0_2]; frame_out
  pointwise [k0_pay1, G0, Cert.Spec.rms]
  blk_point [iblk0, idx0 t]

end Cert.KernelIdeal.Part
-- ==== Proof.Part.Proj1.lean ====
module

public import proofs.«01_k».proof.Proof.Gen.KernelIdeal.Frame.Region1
public import Idealize.ShloMosaic.Lib.Pipeline.ValueKit
public import proofs.«01_k».proof.Proof.Spec

@[expose] public section

set_option maxRecDepth 16384

/-! The second call: projections without an activation, three blocks of 1024 columns. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx1 : ∀ t : Fin cfg1.N, win1_0.index t = ![t.val % 16, 0]
    ∧ win1_1.index t = ![if t.val < 32 then 3072 + 1024 * (t.val / 16) else 10288, 0] ∧ win1_2.index t = ![t.val % 16, t.val / 16] :=
  (by decide +kernel : ∀ t : Fin grid1.N, _)

/-- The weight rows that window 1 of the call reads at a point, at coordinates. -/
theorem rows1 (c : Dev nD) (t : Fin cfg1.N) (a : Fin 1024) (k : Fin 4096) (j : Fin 25648) (hj : j.val = (if t.val < 32 then 3072 + 1024 * (t.val / 16) else 10288) + a.val) :
    (iblk1 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win1_1 t (ix2 a k) b).trans ?_
  rw [(idx1 t).2.1]
  match b with
  | 0 => exact hj.symm
  | 1 => exact Nat.zero_add _

/-- The weight row behind column `j` of the result. -/
def col1 (j : Fin 3072) : Fin 25648 := ⟨if j.val < 2048 then 3072 + j.val else 8240 + j.val, by first | omega | (split <;> omega) | (split <;> [skip; split] <;> omega)⟩

/-- The array the call leaves. -/
def G1 (h : FVec Ideal S16384x4096 .bf16) (w : FVec Ideal S25648x4096 .bf16) : FVec Ideal S16384x3072 .bf16 := fun i =>
  (Cert.Spec.dot (fun k : Fin 4096 => h (ix2 (i 0) k)) (fun k => w (ix2 (col1 (i 1)) k)))

theorem final1 (c : Dev nD) : (dat1 V c).arrAt 2 cfg1.N = G1 (V c main_v4) (V c main_v2) := by
  refine (dat1 V c).arrAt_eq_of_covers 2 _ (by decide +kernel) fun t hf y => ?_
  blk_simp
  rw [after1_2]; frame_out
  have key : Cert.Spec.dot (fun k : Fin 4096 => (iblk1 V c 0 t : FVec Ideal S1024x4096 .bf16) (ix2 (y 0) k))
        (fun k => (iblk1 V c 1 t : FVec Ideal S1024x4096 .bf16) (ix2 (y 1) k))
      = Cert.Spec.dot (fun k : Fin 4096 => (V c main_v4 : FVec Ideal S16384x4096 .bf16) (ix2 (((cfg1.win 2).blk t).view.emb y 0) k))
        (fun k => (V c main_v2 : FVec Ideal S25648x4096 .bf16) (ix2 (col1 (((cfg1.win 2).blk t).view.emb y 1)) k)) := by
    refine Cert.Spec.dot_congr (fun k => ?_) (fun k => rows1 V c t _ k _ ?_)
    · blk_point [iblk1, idx1 t]
    · blk_simp [idx1 t, col1]
      idx_bounds
      dsimp only
      first | omega | (split_ifs <;> omega)
  pointwise [k1_pay1, G1]
  exact key

end Cert.KernelIdeal.Part
-- ==== Proof.Part.Proj2.lean ====
module

public import proofs.«01_k».proof.Proof.Gen.KernelIdeal.Frame.Region2
public import Idealize.ShloMosaic.Lib.Pipeline.ValueKit
public import proofs.«01_k».proof.Proof.Spec

@[expose] public section

set_option maxRecDepth 16384

/-! The third call: projections kept in single precision, two blocks of 1024 columns. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx2 : ∀ t : Fin cfg2.N, win2_0.index t = ![t.val % 16, 0]
    ∧ win2_1.index t = ![if t.val < 16 then 2048 else 11312, 0] ∧ win2_2.index t = ![t.val % 16, t.val / 16] :=
  (by decide +kernel : ∀ t : Fin grid2.N, _)

/-- The weight rows that window 1 of the call reads at a point, at coordinates. -/
theorem rows2 (c : Dev nD) (t : Fin cfg2.N) (a : Fin 1024) (k : Fin 4096) (j : Fin 25648) (hj : j.val = (if t.val < 16 then 2048 else 11312) + a.val) :
    (iblk2 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win2_1 t (ix2 a k) b).trans ?_
  rw [(idx2 t).2.1]
  match b with
  | 0 => exact hj.symm
  | 1 => exact Nat.zero_add _

/-- The weight row behind column `j` of the result. -/
def col2 (j : Fin 2048) : Fin 25648 := ⟨if j.val < 1024 then 2048 + j.val else 10288 + j.val, by first | omega | (split <;> omega) | (split <;> [skip; split] <;> omega)⟩

/-- The array the call leaves. -/
def G2 (h : FVec Ideal S16384x4096 .bf16) (w : FVec Ideal S25648x4096 .bf16) : FVec Ideal S16384x2048 .f32 := fun i =>
  (Cert.Spec.dot (fun k : Fin 4096 => h (ix2 (i 0) k)) (fun k => w (ix2 (col2 (i 1)) k)))

theorem final2 (c : Dev nD) : (dat2 V c).arrAt 2 cfg2.N = G2 (V c main_v4) (V c main_v2) := by
  refine (dat2 V c).arrAt_eq_of_covers 2 _ (by decide +kernel) fun t hf y => ?_
  blk_simp
  rw [after2_2]; frame_out
  have key : Cert.Spec.dot (fun k : Fin 4096 => (iblk2 V c 0 t : FVec Ideal S1024x4096 .bf16) (ix2 (y 0) k))
        (fun k => (iblk2 V c 1 t : FVec Ideal S1024x4096 .bf16) (ix2 (y 1) k))
      = Cert.Spec.dot (fun k : Fin 4096 => (V c main_v4 : FVec Ideal S16384x4096 .bf16) (ix2 (((cfg2.win 2).blk t).view.emb y 0) k))
        (fun k => (V c main_v2 : FVec Ideal S25648x4096 .bf16) (ix2 (col2 (((cfg2.win 2).blk t).view.emb y 1)) k)) := by
    refine Cert.Spec.dot_congr (fun k => ?_) (fun k => rows2 V c t _ k _ ?_)
    · blk_point [iblk2, idx2 t]
    · blk_simp [idx2 t, col2]
      idx_bounds
      dsimp only
      first | omega | (split_ifs <;> omega)
  pointwise [k2_pay1, G2]
  exact key

end Cert.KernelIdeal.Part
-- ==== Proof.Part.Proj3.lean ====
module

public import proofs.«01_k».proof.Proof.Gen.KernelIdeal.Frame.Region3
public import Idealize.ShloMosaic.Lib.Pipeline.ValueKit
public import proofs.«01_k».proof.Proof.Spec

@[expose] public section

set_option maxRecDepth 16384

/-! The fourth call: projections through the SiLU, four blocks of 1024 columns. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx3 : ∀ t : Fin cfg3.N, win3_0.index t = ![t.val % 16, 0]
    ∧ win3_1.index t = ![if t.val < 32 then 5168 + 1024 * (t.val / 16) else if t.val < 48 then 9264 else 12336, 0] ∧ win3_2.index t = ![t.val % 16, t.val / 16] :=
  (by decide +kernel : ∀ t : Fin grid3.N, _)

/-- The weight rows that window 1 of the call reads at a point, at coordinates. -/
theorem rows3 (c : Dev nD) (t : Fin cfg3.N) (a : Fin 1024) (k : Fin 4096) (j : Fin 25648) (hj : j.val = (if t.val < 32 then 5168 + 1024 * (t.val / 16) else if t.val < 48 then 9264 else 12336) + a.val) :
    (iblk3 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win3_1 t (ix2 a k) b).trans ?_
  rw [(idx3 t).2.1]
  match b with
  | 0 => exact hj.symm
  | 1 => exact Nat.zero_add _

/-- The weight row behind column `j` of the result. -/
def col3 (j : Fin 4096) : Fin 25648 := ⟨if j.val < 2048 then 5168 + j.val else if j.val < 3072 then 7216 + j.val else 9264 + j.val, by first | omega | (split <;> omega) | (split <;> [skip; split] <;> omega)⟩

/-- The array the call leaves. -/
def G3 (h : FVec Ideal S16384x4096 .bf16) (w : FVec Ideal S25648x4096 .bf16) : FVec Ideal S16384x4096 .bf16 := fun i =>
  Cert.Spec.silu (Cert.Spec.dot (fun k : Fin 4096 => h (ix2 (i 0) k)) (fun k => w (ix2 (col3 (i 1)) k)))

theorem final3 (c : Dev nD) : (dat3 V c).arrAt 2 cfg3.N = G3 (V c main_v4) (V c main_v2) := by
  refine (dat3 V c).arrAt_eq_of_covers 2 _ (by decide +kernel) fun t hf y => ?_
  blk_simp
  rw [after3_2]; frame_out
  have key : Cert.Spec.dot (fun k : Fin 4096 => (iblk3 V c 0 t : FVec Ideal S1024x4096 .bf16) (ix2 (y 0) k))
        (fun k => (iblk3 V c 1 t : FVec Ideal S1024x4096 .bf16) (ix2 (y 1) k))
      = Cert.Spec.dot (fun k : Fin 4096 => (V c main_v4 : FVec Ideal S16384x4096 .bf16) (ix2 (((cfg3.win 2).blk t).view.emb y 0) k))
        (fun k => (V c main_v2 : FVec Ideal S25648x4096 .bf16) (ix2 (col3 (((cfg3.win 2).blk t).view.emb y 1)) k)) := by
    refine Cert.Spec.dot_congr (fun k => ?_) (fun k => rows3 V c t _ k _ ?_)
    · blk_point [iblk3, idx3 t]
    · blk_simp [idx3 t, col3]
      idx_bounds
      dsimp only
      first | omega | (split_ifs <;> omega)
  pointwise [k3_pay1, G3]
  exact Cert.Spec.silu_of key

end Cert.KernelIdeal.Part
-- ==== Proof.Part.Glu.lean ====
module

public import proofs.«01_k».proof.Proof.Gen.KernelIdeal.Frame.Region4
public import Idealize.ShloMosaic.Lib.Pipeline.ValueKit
public import proofs.«01_k».proof.Proof.Spec

@[expose] public section

set_option maxRecDepth 16384

/-! The fifth call: the gated linear unit in front of the convolution, one half of the columns times the logistic of the other. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx4 : ∀ t : Fin cfg4.N, win4_0.index t = ![t.val % 16, 0]
    ∧ win4_1.index t = ![7216 + 512 * (t.val / 16), 0] ∧ win4_2.index t = ![8240 + 512 * (t.val / 16), 0]
    ∧ win4_3.index t = ![t.val % 16, t.val / 16] :=
  (by decide +kernel : ∀ t : Fin grid4.N, _)

/-- The weight rows that window 1 of the call reads at a point, at coordinates. -/
theorem rows4_1 (c : Dev nD) (t : Fin cfg4.N) (a : Fin 512) (k : Fin 4096) (j : Fin 25648) (hj : j.val = 7216 + 512 * (t.val / 16) + a.val) :
    (iblk4 V c 1 t : FVec Ideal S512x4096 .bf16) (ix2 a k) = (V c main_v2 : FVec Ideal S25648x4096 .bf16) (ix2 j k) := by
  refine congrArg (V c main_v2) (funext fun b => Fin.ext ?_)
  refine (Pipeline.Window.rect_emb_val_off win4_1 t (ix2 a k) b).trans ?_
  rw [(idx4 t).2.1]
  match b with
  | 0 => exact hj.symm
  | 1 => exact Nat.zero_add _

/-- The weight rows that window 2 of the call reads at a point, at coordinates. -/
theorem rows4_2 (c : Dev nD) (t : Fin cfg4.N) (a : Fin 512) (k : Fin 4096) (j : Fin 25648) (hj : j.val = 8240 + 512 * (t.val / 16) + a.val) :
    (iblk4 V c 2 t : FVec Ideal S512x4096 .bf16) (ix2 a k) = (V c main_v2 : FVec Ideal S25648x4096 .bf16) (ix2 j k) := by
  refine congrArg (V c main_v2) (funext fun b => Fin.ext ?_)
  refine (Pipeline.Window.rect_emb_val_off win4_2 t (ix2 a k) b).trans ?_
  rw [(idx4 t).2.2.1]
  match b with
  | 0 => exact hj.symm
  | 1 => exact Nat.zero_add _

/-- The weight row behind column `j` of the value half. -/
def col4u (j : Fin 1024) : Fin 25648 := ⟨7216 + j.val, by omega⟩
/-- The weight row behind column `j` of the gate half. -/
def col4g (j : Fin 1024) : Fin 25648 := ⟨8240 + j.val, by omega⟩

/-- The array the call leaves. -/
def G4 (h : FVec Ideal S16384x4096 .bf16) (w : FVec Ideal S25648x4096 .bf16) : FVec Ideal S16384x1024 .f32 := fun i =>
  Cert.Spec.dot (fun k : Fin 4096 => h (ix2 (i 0) k)) (fun k => w (ix2 (col4u (i 1)) k))
    * Cert.Spec.sigm (Cert.Spec.dot (fun k : Fin 4096 => h (ix2 (i 0) k)) (fun k => w (ix2 (col4g (i 1)) k)))

theorem final4 (c : Dev nD) : (dat4 V c).arrAt 3 cfg4.N = G4 (V c main_v4) (V c main_v2) := by
  refine (dat4 V c).arrAt_eq_of_covers 3 _ (by decide +kernel) fun t hf y => ?_
  blk_simp
  rw [after4_3]; frame_out
  have keyu : Cert.Spec.dot (fun k : Fin 4096 => (iblk4 V c 0 t : FVec Ideal S1024x4096 .bf16) (ix2 (y 0) k))
        (fun k => (iblk4 V c 1 t : FVec Ideal S512x4096 .bf16) (ix2 (y 1) k))
      = Cert.Spec.dot (fun k : Fin 4096 => (V c main_v4 : FVec Ideal S16384x4096 .bf16) (ix2 (((cfg4.win 3).blk t).view.emb y 0) k))
        (fun k => (V c main_v2 : FVec Ideal S25648x4096 .bf16) (ix2 (col4u (((cfg4.win 3).blk t).view.emb y 1)) k)) := by
    refine Cert.Spec.dot_congr (fun k => ?_) (fun k => rows4_1 V c t _ k _ ?_)
    · blk_point [iblk4, idx4 t]
    · blk_simp [idx4 t, col4u]
      idx_bounds
      dsimp only
      omega
  have keyg : Cert.Spec.dot (fun k : Fin 4096 => (iblk4 V c 0 t : FVec Ideal S1024x4096 .bf16) (ix2 (y 0) k))
        (fun k => (iblk4 V c 2 t : FVec Ideal S512x4096 .bf16) (ix2 (y 1) k))
      = Cert.Spec.dot (fun k : Fin 4096 => (V c main_v4 : FVec Ideal S16384x4096 .bf16) (ix2 (((cfg4.win 3).blk t).view.emb y 0) k))
        (fun k => (V c main_v2 : FVec Ideal S25648x4096 .bf16) (ix2 (col4g (((cfg4.win 3).blk t).view.emb y 1)) k)) := by
    refine Cert.Spec.dot_congr (fun k => ?_) (fun k => rows4_2 V c t _ k _ ?_)
    · blk_point [iblk4, idx4 t]
    · blk_simp [idx4 t, col4g]
      idx_bounds
      dsimp only
      omega
  pointwise [k4_pay1, G4]
  exact congrArg₂ (fun a b : EReal => a * b) keyu (Cert.Spec.sigm_of keyg)

end Cert.KernelIdeal.Part
-- ==== Proof.Part.ConvStage.lean ====
module

public import proofs.«01_k».proof.Proof.Gen.KernelIdeal.Frame.Region5
public import Idealize.ShloMosaic.Lib.Pipeline.ValueKit
public import proofs.«01_k».proof.Proof.Spec

@[expose] public section

set_option maxRecDepth 16384

/-! The sixth call, the causal convolution: its scratch buffer. A point copies the 32 rows before its block (zeroed in
the first block) and its block's 256 rows to plane 0, then plane 0 shifted up by `s` rows to plane `s`, for `s` from 1
to 7. So row `n` of plane `s` is row `n + s` of the 288 rows. -/

noncomputable section

namespace Cert.KernelIdeal.Part

open Cert.KernelIdeal Cert.KernelIdeal.Gen
open Idealize.ShloMosaic Idealize.ShloMosaic.TcCoe Idealize.SL.Sem

/-- Row `n` of the 288 rows a point convolves: 32 rows from before the block, then the block. -/
def ext (i : grid5.Coords) (x0 : FVec Ideal S1x256x1024 .f32) (x1 : FVec Ideal S1x32x1024 .f32) (n : ℕ) (d : Fin 1024) : EReal :=
  if h : n < 32 then if 0 < (i 1).val then x1 (ix3 0 ⟨n, h⟩ d) else 0
  else if h' : n - 32 < 256 then x0 (ix3 0 ⟨n - 32, h'⟩ d) else 0

theorem ext_lo (i : grid5.Coords) (x0 : FVec Ideal S1x256x1024 .f32) (x1 : FVec Ideal S1x32x1024 .f32) (n : ℕ) (d : Fin 1024) (h : n < 32) :
    ext i x0 x1 n d = if 0 < (i 1).val then x1 (ix3 0 ⟨n, h⟩ d) else 0 := dif_pos h

theorem ext_hi (i : grid5.Coords) (x0 : FVec Ideal S1x256x1024 .f32) (x1 : FVec Ideal S1x32x1024 .f32) (n : ℕ) (d : Fin 1024) (h : ¬ n < 32)
    (h' : n - 32 < 256) : ext i x0 x1 n d = x0 (ix3 0 ⟨n - 32, h'⟩ d) :=
  (dif_neg h).trans (dif_pos h')

/-- The scratch buffer once every plane is stored. -/
def plane (i : grid5.Coords) (x0 : FVec Ideal S1x256x1024 .f32) (x1 : FVec Ideal S1x32x1024 .f32) : FVec Ideal S8x288x1024 .f32 := fun j =>
  ext i x0 x1 ((j 0).val + (j 1).val) (j 2)

section
variable (i : grid5.Coords) (x0 : FVec Ideal S1x256x1024 .f32) (x1 : FVec Ideal S1x32x1024 .f32)

/-- Stores that all hold what the finished scratch buffer holds. -/
def Agree (L : List (View.Piece (Elt Ideal) S8x288x1024 .f32)) : Prop :=
  ∀ p ∈ L, ∀ x : p.1.shape.Idx, p.2 x = plane i x0 x1 (p.1.emb x)

/-- A stored place. -/
def Stored (L : List (View.Piece (Elt Ideal) S8x288x1024 .f32)) (y : S8x288x1024.Idx) : Prop := ∃ p ∈ L, y ∈ p.1.set

/-- The stores to plane 0. -/
abbrev st0 : List (View.Piece (Elt Ideal) S8x288x1024 .f32) :=
  [⟨Rect.unit (s := S8x288x1024) ![0, 32, 0] ![1, 256, 1024] inb_S8x288x1024_S1x256x1024_0_32_0, k5_pay3 (F := Ideal) x0⟩,
   ⟨Rect.unit (s := S8x288x1024) ![0, 0, 0] ![1, 32, 1024] inb_S8x288x1024_S1x32x1024_0_0_0, k5_pay2 (F := Ideal) i x1⟩]

/-- The stores up to plane 1. -/
abbrev st1 : List (View.Piece (Elt Ideal) S8x288x1024 .f32) :=
  ⟨Rect.unit (s := S8x288x1024) ![1, 0, 0] ![1, 280, 1024] inb_S8x288x1024_S1x280x1024_1_0_0,
    k5_pay4 (F := Ideal) ((View.whole cc5_scratch0).readCov (st0 i x0 x1) (Rect.unit (s := S8x288x1024) ![0, 1, 0] ![1, 280, 1024] inb_S8x288x1024_S1x280x1024_0_1_0).toLoadRect)⟩ :: st0 i x0 x1

/-- The stores up to plane 2. -/
abbrev st2 : List (View.Piece (Elt Ideal) S8x288x1024 .f32) :=
  ⟨Rect.unit (s := S8x288x1024) ![2, 0, 0] ![1, 280, 1024] inb_S8x288x1024_S1x280x1024_2_0_0,
    k5_pay5 (F := Ideal) ((View.whole cc5_scratch0).readCov (st1 i x0 x1) (Rect.unit (s := S8x288x1024) ![0, 2, 0] ![1, 280, 1024] inb_S8x288x1024_S1x280x1024_0_2_0).toLoadRect)⟩ :: st1 i x0 x1

/-- The stores up to plane 3. -/
abbrev st3 : List (View.Piece (Elt Ideal) S8x288x1024 .f32) :=
  ⟨Rect.unit (s := S8x288x1024) ![3, 0, 0] ![1, 280, 1024] inb_S8x288x1024_S1x280x1024_3_0_0,
    k5_pay7 (F := Ideal) (k5_pay6 (F := Ideal) ((View.whole cc5_scratch0).readCov (st2 i x0 x1) (Rect.unit (s := S8x288x1024) ![0, 3, 0] ![1, 280, 1024] inb_S8x288x1024_S1x280x1024_0_3_0).toLoadRect))⟩ :: st2 i x0 x1

/-- The stores up to plane 4. -/
abbrev st4 : List (View.Piece (Elt Ideal) S8x288x1024 .f32) :=
  ⟨Rect.unit (s := S8x288x1024) ![4, 0, 0] ![1, 280, 1024] inb_S8x288x1024_S1x280x1024_4_0_0,
    k5_pay8 (F := Ideal) ((View.whole cc5_scratch0).readCov (st3 i x0 x1) (Rect.unit (s := S8x288x1024) ![0, 4, 0] ![1, 280, 1024] inb_S8x288x1024_S1x280x1024_0_4_0).toLoadRect)⟩ :: st3 i x0 x1

/-- The stores up to plane 5. -/
abbrev st5 : List (View.Piece (Elt Ideal) S8x288x1024 .f32) :=
  ⟨Rect.unit (s := S8x288x1024) ![5, 0, 0] ![1, 280, 1024] inb_S8x288x1024_S1x280x1024_5_0_0,
    k5_pay9 (F := Ideal) ((View.whole cc5_scratch0).readCov (st4 i x0 x1) (Rect.unit (s := S8x288x1024) ![0, 5, 0] ![1, 280, 1024] inb_S8x288x1024_S1x280x1024_0_5_0).toLoadRect)⟩ :: st4 i x0 x1

/-- The stores up to plane 6. -/
abbrev st6 : List (View.Piece (Elt Ideal) S8x288x1024 .f32) :=
  ⟨Rect.unit (s := S8x288x1024) ![6, 0, 0] ![1, 280, 1024] inb_S8x288x1024_S1x280x1024_6_0_0,
    k5_pay10 (F := Ideal) ((View.whole cc5_scratch0).readCov (st5 i x0 x1) (Rect.unit (s := S8x288x1024) ![0, 6, 0] ![1, 280, 1024] inb_S8x288x1024_S1x280x1024_0_6_0).toLoadRect)⟩ :: st5 i x0 x1

/-- The stores up to plane 7. -/
abbrev st7 : List (View.Piece (Elt Ideal) S8x288x1024 .f32) :=
  ⟨Rect.unit (s := S8x288x1024) ![7, 0, 0] ![1, 280, 1024] inb_S8x288x1024_S1x280x1024_7_0_0,
    k5_pay11 (F := Ideal) ((View.whole cc5_scratch0).readCov (st6 i x0 x1) (Rect.unit (s := S8x288x1024) ![0, 7, 0] ![1, 280, 1024] inb_S8x288x1024_S1x280x1024_0_7_0).toLoadRect)⟩ :: st6 i x0 x1

theorem Agree.cons {L} (h : Agree i x0 x1 L) (p : View.Piece (Elt Ideal) S8x288x1024 .f32)
    (hp : ∀ x : p.1.shape.Idx, p.2 x = plane i x0 x1 (p.1.emb x)) : Agree i x0 x1 (p :: L) := fun q hq => by
  rcases List.mem_cons.mp hq with rfl | hq
  · exact hp
  · exact h q hq

theorem Stored.cons {L y} (h : Stored L y) (p : View.Piece (Elt Ideal) S8x288x1024 .f32) : Stored (p :: L) y := by
  obtain ⟨q, hq, hy⟩ := h
  exact ⟨q, List.mem_cons_of_mem _ hq, hy⟩

/-- A load of stored places reads what the finished scratch buffer holds. -/
theorem load_of {L} (h : Agree i x0 x1 L) (B : LoadRect S8x288x1024) (hB : ∀ j, Stored L (B.idx j)) :
    (View.whole cc5_scratch0).readCov L B = fun j => plane i x0 x1 (B.idx j) := by
  refine (View.readCov_eq_canon' (View.whole cc5_scratch0) L B).trans (funext fun j => ?_)
  have h' : ∀ p ∈ L, ∀ x : p.1.shape.Idx, p.2 x = (plane i x0 x1 : S8x288x1024.Idx → Elt Ideal .f32) (p.1.emb x) := h
  exact View.canon_apply_of_pieces (S := S8x288x1024) (e := .f32) (plane i x0 x1) L h' (B.idx j) (hB j)

theorem mem_box (a b r : ℕ) (inb : ∀ k, (![a, b, 0] : Fin 3 → ℕ) k + (![1, r, 1024] : Fin 3 → ℕ) k ≤ S8x288x1024.size k)
    (y : S8x288x1024.Idx) (h0 : (y 0).val = a) (h1 : b ≤ (y 1).val) (h1' : (y 1).val < b + r) :
    y ∈ (Rect.unit (s := S8x288x1024) ![a, b, 0] ![1, r, 1024] inb).set := by
  have h2 : (y 2).val < 1024 := (y 2).isLt
  refine Rect.mem_set_unit.mpr fun k => ?_
  match k with
  | 0 => exact ⟨by show a ≤ (y 0).val; omega, by show (y 0).val < a + 1; omega⟩
  | 1 => exact ⟨h1, h1'⟩
  | 2 => exact ⟨Nat.zero_le _, by show (y 2).val < 0 + 1024; omega⟩

theorem stored0 (y : S8x288x1024.Idx) (h : (y 0).val = 0) : Stored (st0 i x0 x1) y := by
  have h1 : (y 1).val < 288 := (y 1).isLt
  by_cases hr : (y 1).val < 32
  · exact ⟨_, List.mem_cons_of_mem _ List.mem_cons_self, mem_box 0 0 32 inb_S8x288x1024_S1x32x1024_0_0_0 y h (Nat.zero_le _) (by omega)⟩
  · exact ⟨_, List.mem_cons_self, mem_box 0 32 256 inb_S8x288x1024_S1x256x1024_0_32_0 y h (by omega) (by omega)⟩

/-- The choice between the rows before the block and zero rows. -/
theorem sel_gt (a : Fin 16) (p q : EReal) :
    Scalar.select (Scalar.cmpi .sgt (BitVec.ofNat 32 a.val) 0#32) p q = if 0 < a.val then p else q := by
  have h : Scalar.cmpi .sgt (BitVec.ofNat 32 a.val) 0#32 = if 0 < a.val then 1#1 else 0#1 := by
    revert a; decide
  rw [h]
  split_ifs <;> rfl

theorem agree0 : Agree i x0 x1 (st0 i x0 x1) := by
  refine Agree.cons i x0 x1 (Agree.cons i x0 x1 (fun p hp => absurd hp List.not_mem_nil) _ fun x => ?_) _ fun x => ?_
  · show k5_pay2 (F := Ideal) i x1 x = ext i x0 x1 (0 + 1 * (x 0).val + (0 + 1 * (x 1).val)) _
    have h0 : (x 0).val < 1 := (x 0).isLt
    have h1 : (x 1).val < 32 := (x 1).isLt
    refine Eq.trans ?_ (ext_lo i x0 x1 _ _ (show 0 + 1 * (x 0).val + (0 + 1 * (x 1).val) < 32 by omega)).symm
    pointwise [k5_pay2]
    refine (sel_gt (i 1) _ _).trans ?_
    have hx : x = ix3 0 (x 1) ((Rect.unit (s := S8x288x1024) ![0, 0, 0] ![1, 32, 1024] inb_S8x288x1024_S1x32x1024_0_0_0).emb x 2) := by
      funext k
      match k with
      | 0 => exact Fin.ext (by show (x 0).val = 0; omega)
      | 1 => rfl
      | 2 => exact Fin.ext (by show (x 2).val = 0 + 1 * (x 2).val; omega)
    exact congrArg (fun v => if 0 < (i 1).val then x1 v else 0) hx
  · show k5_pay3 (F := Ideal) x0 x = ext i x0 x1 (0 + 1 * (x 0).val + (32 + 1 * (x 1).val)) _
    have h0 : (x 0).val < 1 := (x 0).isLt
    have h1 : (x 1).val < 256 := (x 1).isLt
    refine Eq.trans ?_ (ext_hi i x0 x1 _ _ (show ¬ 0 + 1 * (x 0).val + (32 + 1 * (x 1).val) < 32 by omega) (show 0 + 1 * (x 0).val + (32 + 1 * (x 1).val) - 32 < 256 by omega)).symm
    pointwise [k5_pay3]
    have hx : x = ix3 0 (x 1) ((Rect.unit (s := S8x288x1024) ![0, 32, 0] ![1, 256, 1024] inb_S8x288x1024_S1x256x1024_0_32_0).emb x 2) := by
      funext k
      match k with
      | 0 => exact Fin.ext (by show (x 0).val = 0; omega)
      | 1 => rfl
      | 2 => exact Fin.ext (by show (x 2).val = 0 + 1 * (x 2).val; omega)
    exact congrArg x0 hx

/-- The copy to plane `s` of plane 0 from row `s` on. -/
theorem agree_copy (s : ℕ) (hs : s < 8) (inb1 inb2) (L) (h : Agree i x0 x1 L) (hL : ∀ y, (y 0).val = 0 → Stored L y) (x : S1x280x1024.Idx) :
    (View.whole cc5_scratch0).readCov L (Rect.unit (s := S8x288x1024) ![0, s, 0] ![1, 280, 1024] inb1).toLoadRect x
      = plane i x0 x1 ((Rect.unit (s := S8x288x1024) ![s, 0, 0] ![1, 280, 1024] inb2).emb x) := by
  have h0 : (x 0).val < 1 := (x 0).isLt
  rw [load_of i x0 x1 h _ fun j => hL _ (by
    have h0 : (j 0).val < 1 := (j 0).isLt
    show 0 + 1 * (j 0).val = 0
    omega)]
  show ext i x0 x1 (0 + 1 * (x 0).val + (s + 1 * (x 1).val)) _ = ext i x0 x1 (s + 1 * (x 0).val + (0 + 1 * (x 1).val)) _
  exact congrArg₂ (ext i x0 x1) (by omega) rfl

theorem stored_copy (s : ℕ) (inb) (w) (L) (y : S8x288x1024.Idx) (h : (y 0).val = s) (h1 : (y 1).val < 280) :
    Stored (⟨Rect.unit (s := S8x288x1024) ![s, 0, 0] ![1, 280, 1024] inb, w⟩ :: L) y := by
  exact ⟨_, List.mem_cons_self, mem_box s 0 280 inb y h (Nat.zero_le _) (by omega)⟩

theorem agree1 : Agree i x0 x1 (st1 i x0 x1) := by
  refine Agree.cons i x0 x1 (agree0 i x0 x1) _ fun x => ?_
  refine Eq.trans ?_ (agree_copy i x0 x1 1 (by omega) inb_S8x288x1024_S1x280x1024_0_1_0 inb_S8x288x1024_S1x280x1024_1_0_0 _
    (agree0 i x0 x1) (fun y h => stored0 i x0 x1 _ h) x)
  pointwise [k5_pay4]

theorem agree2 : Agree i x0 x1 (st2 i x0 x1) := by
  refine Agree.cons i x0 x1 (agree1 i x0 x1) _ fun x => ?_
  refine Eq.trans ?_ (agree_copy i x0 x1 2 (by omega) inb_S8x288x1024_S1x280x1024_0_2_0 inb_S8x288x1024_S1x280x1024_2_0_0 _
    (agree1 i x0 x1) (fun y h => Stored.cons (stored0 i x0 x1 _ h) _) x)
  pointwise [k5_pay5]

theorem agree3 : Agree i x0 x1 (st3 i x0 x1) := by
  refine Agree.cons i x0 x1 (agree2 i x0 x1) _ fun x => ?_
  refine Eq.trans ?_ (agree_copy i x0 x1 3 (by omega) inb_S8x288x1024_S1x280x1024_0_3_0 inb_S8x288x1024_S1x280x1024_3_0_0 _
    (agree2 i x0 x1) (fun y h => Stored.cons (Stored.cons (stored0 i x0 x1 _ h) _) _) x)
  pointwise [k5_pay7, k5_pay6]

theorem agree4 : Agree i x0 x1 (st4 i x0 x1) := by
  refine Agree.cons i x0 x1 (agree3 i x0 x1) _ fun x => ?_
  refine Eq.trans ?_ (agree_copy i x0 x1 4 (by omega) inb_S8x288x1024_S1x280x1024_0_4_0 inb_S8x288x1024_S1x280x1024_4_0_0 _
    (agree3 i x0 x1) (fun y h => Stored.cons (Stored.cons (Stored.cons (stored0 i x0 x1 _ h) _) _) _) x)
  pointwise [k5_pay8]

theorem agree5 : Agree i x0 x1 (st5 i x0 x1) := by
  refine Agree.cons i x0 x1 (agree4 i x0 x1) _ fun x => ?_
  refine Eq.trans ?_ (agree_copy i x0 x1 5 (by omega) inb_S8x288x1024_S1x280x1024_0_5_0 inb_S8x288x1024_S1x280x1024_5_0_0 _
    (agree4 i x0 x1) (fun y h => Stored.cons (Stored.cons (Stored.cons (Stored.cons (stored0 i x0 x1 _ h) _) _) _) _) x)
  pointwise [k5_pay9]

theorem agree6 : Agree i x0 x1 (st6 i x0 x1) := by
  refine Agree.cons i x0 x1 (agree5 i x0 x1) _ fun x => ?_
  refine Eq.trans ?_ (agree_copy i x0 x1 6 (by omega) inb_S8x288x1024_S1x280x1024_0_6_0 inb_S8x288x1024_S1x280x1024_6_0_0 _
    (agree5 i x0 x1) (fun y h => Stored.cons (Stored.cons (Stored.cons (Stored.cons (Stored.cons (stored0 i x0 x1 _ h) _) _) _) _) _) x)
  pointwise [k5_pay10]

theorem agree7 : Agree i x0 x1 (st7 i x0 x1) := by
  refine Agree.cons i x0 x1 (agree6 i x0 x1) _ fun x => ?_
  refine Eq.trans ?_ (agree_copy i x0 x1 7 (by omega) inb_S8x288x1024_S1x280x1024_0_7_0 inb_S8x288x1024_S1x280x1024_7_0_0 _
    (agree6 i x0 x1) (fun y h => Stored.cons (Stored.cons (Stored.cons (Stored.cons (Stored.cons (Stored.cons (stored0 i x0 x1 _ h) _) _) _) _) _) _) x)
  pointwise [k5_pay11]

/-- Every place of plane 0 and the first 280 rows of the other planes are stored. -/
theorem stored7 (y : S8x288x1024.Idx) (h : (y 0).val = 0 ∨ (y 1).val < 280) : Stored (st7 i x0 x1) y := by
  have hy : (y 0).val < 8 := (y 0).isLt
  by_cases h0 : (y 0).val = 0
  · exact Stored.cons (Stored.cons (Stored.cons (Stored.cons (Stored.cons (Stored.cons (Stored.cons (stored0 i x0 x1 y h0) _) _) _) _) _) _) _
  have hr : (y 1).val < 280 := by omega
  by_cases h7 : (y 0).val = 7
  · exact stored_copy 7 _ _ _ y h7 hr
  refine Stored.cons ?_ _
  by_cases h6 : (y 0).val = 6
  · exact stored_copy 6 _ _ _ y h6 hr
  refine Stored.cons ?_ _
  by_cases h5 : (y 0).val = 5
  · exact stored_copy 5 _ _ _ y h5 hr
  refine Stored.cons ?_ _
  by_cases h4 : (y 0).val = 4
  · exact stored_copy 4 _ _ _ y h4 hr
  refine Stored.cons ?_ _
  by_cases h3 : (y 0).val = 3
  · exact stored_copy 3 _ _ _ y h3 hr
  refine Stored.cons ?_ _
  by_cases h2 : (y 0).val = 2
  · exact stored_copy 2 _ _ _ y h2 hr
  refine Stored.cons ?_ _
  by_cases h1 : (y 0).val = 1
  · exact stored_copy 1 _ _ _ y h1 hr
  omega

/-- A load of 32 rows of a plane, once every plane is stored. -/
theorem load7 (s b : ℕ) (inb) (h : s = 0 ∨ b + 32 ≤ 280) :
    (View.whole cc5_scratch0).readCov (st7 i x0 x1) (Rect.unit (s := S8x288x1024) ![s, b, 0] ![1, 32, 1024] inb).toLoadRect
      = fun j : S1x32x1024.Idx => ext i x0 x1 (s + b + (j 1).val) (j 2) := by
  refine (load_of i x0 x1 (agree7 i x0 x1) _ fun j => stored7 i x0 x1 _ ?_).trans (funext fun j => ?_)
  · have h0 : (j 0).val < 1 := (j 0).isLt
    have h1 : (j 1).val < 32 := (j 1).isLt
    show s + 1 * (j 0).val = 0 ∨ b + 1 * (j 1).val < 280
    omega
  · have h0 : (j 0).val < 1 := (j 0).isLt
    show ext i x0 x1 (s + 1 * (j 0).val + (b + 1 * (j 1).val)) _ = _
    exact congrArg₂ (ext i x0 x1) (by omega) (Fin.ext (by show 0 + 1 * (j 2).val = (j 2).val; omega))

end

end Cert.KernelIdeal.Part
-- ==== Proof.Part.ConvBlock.lean ====
module

public import proofs.«01_k».proof.Proof.Part.ConvStage

@[expose] public section

set_option maxRecDepth 16384

/-! The sixth call, the causal convolution: what one point of its grid computes from its blocks. -/

noncomputable section

namespace Cert.KernelIdeal.Part

open Cert.KernelIdeal Cert.KernelIdeal.Gen
open Idealize.ShloMosaic Idealize.ShloMosaic.TcCoe Idealize.SL.Sem

/-- The block's row `r` and channel `d`: convolution, layer norm, `silu`, and the branch's gate; `e` holds the 288 rows. -/
def convBlk (e : ℕ → Fin 1024 → EReal) (w : FVec Ideal S31x1024 .f32) (b g s : FVec Ideal S1x1024 .f32) (z : FVec Ideal S1x256x1024 .bf16)
    (r : Fin 256) (d : Fin 1024) : EReal :=
  Cert.Spec.silu (Cert.Spec.ln (fun q => Cert.Spec.taps (fun k => e (2 + k + r.val) q) (fun k => w (ix2 k q)) + b (ix2 0 q))
    (fun q => g (ix2 0 q)) (fun q => s (ix2 0 q)) d) * z (ix3 0 r d)

variable (V : (c : Dev nD) → (b : Ref sig .tc) → Buf (Elt Ideal) ((c : Thread nD τ).loc b))

set_option maxHeartbeats 1600000 in
/-- What a point of the call leaves in its block: its eight stores, of 32 rows each, are one formula of the block. -/
theorem conv_block (c : Dev nD) (t : Fin cfg5.N) (y : S1x256x1024.Idx) : outsAt5 (F := Ideal) V c t y
    = convBlk (ext (grid5.coords t) (iblk5 V c 0 t) (iblk5 V c 1 t)) (iblk5 V c 2 t) (iblk5 V c 3 t) (iblk5 V c 4 t) (iblk5 V c 5 t) (iblk5 V c 6 t) (y 1) (y 2) := by
  have key := load7 (grid5.coords t) (iblk5 V c 0 t) (iblk5 V c 1 t)
  unfold outsAt5
  frame_out
  simp (disch := decide) only [key]
  clear key
  generalize ext (grid5.coords t) (iblk5 V c 0 t) (iblk5 V c 1 t) = e
  generalize iblk5 V c 2 t = w
  generalize iblk5 V c 3 t = b
  generalize iblk5 V c 4 t = g
  generalize iblk5 V c 5 t = s
  generalize iblk5 V c 6 t = z
  canon_tiles x h
  all_goals
    open_payloads
    pointwise [convBlk]
    refine congrArg₂ (fun p q : EReal => p * q) (Cert.Spec.silu_of ?_) ?_
    · pointwise [Cert.Spec.ln, Cert.Spec.taps]
      have e2 : x 2 = y 2 := Fin.ext h2.symm
      simp only [e2, h1, ← Nat.add_assoc, Nat.reduceAdd]
      try blk_point
    · blk_point

end Cert.KernelIdeal.Part
-- ==== Proof.Part.Conv.lean ====
module

public import proofs.«01_k».proof.Proof.Gen.KernelIdeal.Frame.Region5
public import Idealize.ShloMosaic.Lib.Pipeline.ValueKit
public import proofs.«01_k».proof.Proof.Part.ConvBlock

@[expose] public section

set_option maxRecDepth 16384

/-! The sixth call, the causal convolution: the array it leaves. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx5 : ∀ t : Fin cfg5.N, win5_0.index t = ![t.val / 16, t.val % 16, 0] ∧ win5_1.index t = ![t.val / 16, 8 * (t.val % 16) - 1, 0]
    ∧ win5_2.index t = ![0, 0] ∧ win5_3.index t = ![0, 0] ∧ win5_4.index t = ![0, 0] ∧ win5_5.index t = ![0, 0]
    ∧ win5_6.index t = ![t.val / 16, t.val % 16, 2] ∧ win5_7.index t = ![t.val / 16, t.val % 16, 0] :=
  (by decide +kernel : ∀ t : Fin grid5.N, _)

theorem row5 : ∀ t : Fin cfg5.N, (cfg5.grid.coords t 1).val = t.val % 16 :=
  (by decide +kernel : ∀ t : Fin grid5.N, _)

/-- The value branch `k` tokens on from thirty tokens before token `s` of sequence `a`: zero before the sequence. -/
def back (y : FVec Ideal S4x4096x1024 .f32) (a : Fin 4) (s : Fin 4096) (k : ℕ) (q : Fin 1024) : EReal :=
  if h : 30 ≤ s.val + k ∧ s.val + k < 4126 then y (ix3 a ⟨s.val + k - 30, by omega⟩ q) else 0

/-- The array the call leaves. -/
def G5 (y : FVec Ideal S4x4096x1024 .f32) (w : FVec Ideal S31x1024 .f32) (b g s : FVec Ideal S1x1024 .f32)
    (z : FVec Ideal S4x4096x4096 .bf16) : FVec Ideal S4x4096x1024 .bf16 := fun i =>
  have h2 : (i 2).val < 1024 := (i 2).isLt
  Cert.Spec.silu (Cert.Spec.ln (fun q => Cert.Spec.taps (fun k => back y (i 0) (i 1) k q) (fun k => w (ix2 k q)) + b (ix2 0 q))
    (fun q => g (ix2 0 q)) (fun q => s (ix2 0 q)) (i 2)) * z (ix3 (i 0) (i 1) ⟨2048 + (i 2).val, by omega⟩)

/-- The rows a point convolves are the value branch's. -/
theorem ext_back (c : Dev nD) (t : Fin cfg5.N) (k : ℕ) (hk : k < 31) (r : Fin 256) (q : Fin 1024) (a : Fin 4) (s : Fin 4096)
    (ha : a.val = t.val / 16) (hs : s.val = 256 * (t.val % 16) + r.val) :
    ext (grid5.coords t) (iblk5 V c 0 t) (iblk5 V c 1 t) (2 + k + r.val) q = back (V c main_v9) a s k q := by
  have hr := r.isLt
  have ht : t.val < 64 := t.isLt
  have hi : ((grid5.coords t) 1).val = t.val % 16 := row5 t
  by_cases h : 2 + k + r.val < 32
  · refine (ext_lo _ _ _ _ _ h).trans ?_
    by_cases hp : 0 < t.val % 16
    · rw [if_pos (by rw [hi]; exact hp)]
      refine Eq.trans ?_ (dif_pos (show 30 ≤ s.val + k ∧ s.val + k < 4126 by omega)).symm
      refine congrArg (V c main_v9) (funext fun b => Fin.ext ?_)
      refine (Pipeline.Window.rect_emb_val_off win5_1 t (ix3 0 ⟨2 + k + r.val, h⟩ q) b).trans ?_
      rw [(idx5 t).2.1]
      match b with
      | 0 => show t.val / 16 * 1 + 0 = a.val; omega
      | 1 => show (8 * (t.val % 16) - 1) * 32 + (2 + k + r.val) = s.val + k - 30; omega
      | 2 => show 0 * 1024 + q.val = q.val; omega
    · rw [if_neg (by rw [hi]; exact hp)]
      exact (dif_neg (show ¬ (30 ≤ s.val + k ∧ s.val + k < 4126) by omega) : back (V c main_v9) a s k q = 0).symm
  · refine (ext_hi _ _ _ _ _ h (by omega)).trans ?_
    refine Eq.trans ?_ (dif_pos (show 30 ≤ s.val + k ∧ s.val + k < 4126 by omega)).symm
    refine congrArg (V c main_v9) (funext fun b => Fin.ext ?_)
    refine (Pipeline.Window.rect_emb_val_off win5_0 t (ix3 0 ⟨2 + k + r.val - 32, by omega⟩ q) b).trans ?_
    rw [(idx5 t).1]
    match b with
    | 0 => show t.val / 16 * 1 + 0 = a.val; omega
    | 1 => show t.val % 16 * 256 + (2 + k + r.val - 32) = s.val + k - 30; omega
    | 2 => show 0 * 1024 + q.val = q.val; omega

theorem final5 (c : Dev nD) : (dat5 V c).arrAt 7 cfg5.N
    = G5 (V c main_v9) (V c main_arg4) (V c main_v11) (V c main_v12) (V c main_v13) (V c main_v10) := by
  refine (dat5 V c).arrAt_eq_of_covers 7 _ (by decide +kernel) fun t hf y => ?_
  have key : ∀ q, Cert.Spec.taps (fun k => ext (grid5.coords t) (iblk5 V c 0 t) (iblk5 V c 1 t) (2 + k + (y 1).val) q) (fun k => (V c main_arg4 : FVec Ideal S31x1024 .f32) (ix2 k q))
      = Cert.Spec.taps (fun k => back (V c main_v9) (((cfg5.win 7).blk t).view.emb y 0) (((cfg5.win 7).blk t).view.emb y 1) k q) (fun k => (V c main_arg4 : FVec Ideal S31x1024 .f32) (ix2 k q)) := fun q =>
    Cert.Spec.taps_congr fun k hk => ext_back V c t k hk (y 1) q _ _ (by blk_simp [idx5 t]; all_goals (idx_bounds; omega)) (by blk_simp [idx5 t]; all_goals (idx_bounds; omega))
  blk_simp
  rw [after5_7]
  refine (conv_block V c t y).trans ?_
  pointwise [convBlk, G5]
  have hw : ∀ k q, (iblk5 V c 2 t : FVec Ideal S31x1024 .f32) (ix2 k q) = (V c main_arg4 : FVec Ideal S31x1024 .f32) (ix2 k q) := fun k q => by blk_point [iblk5, idx5 t]
  have hb : ∀ q, (iblk5 V c 3 t : FVec Ideal S1x1024 .f32) (ix2 0 q) = (V c main_v11 : FVec Ideal S1x1024 .f32) (ix2 0 q) := fun q => by blk_point [iblk5, idx5 t]
  have hg : ∀ q, (iblk5 V c 4 t : FVec Ideal S1x1024 .f32) (ix2 0 q) = (V c main_v12 : FVec Ideal S1x1024 .f32) (ix2 0 q) := fun q => by blk_point [iblk5, idx5 t]
  have hs : ∀ q, (iblk5 V c 5 t : FVec Ideal S1x1024 .f32) (ix2 0 q) = (V c main_v13 : FVec Ideal S1x1024 .f32) (ix2 0 q) := fun q => by blk_point [iblk5, idx5 t]
  have key' := fun q => congrArg₂ (fun p r : EReal => p + r) (key q) (hb q)
  refine congrArg₂ (fun p r : EReal => p * r) (congrArg Cert.Spec.silu ?_) ?_
  · refine Eq.trans ?_ (congrArg₂ (fun f d => Cert.Spec.ln f (fun q => (V c main_v12 : FVec Ideal S1x1024 .f32) (ix2 0 q)) (fun q => (V c main_v13 : FVec Ideal S1x1024 .f32) (ix2 0 q)) d)
      (funext key') (show y 2 = _ from Fin.ext ?_))
    · simp only [hw, hg, hs]
    · blk_simp [idx5 t]
  · blk_point [iblk5, idx5 t]

end Cert.KernelIdeal.Part
-- ==== Proof.Part.SguBlock.lean ====
module

public import proofs.«01_k».proof.Proof.Gen.KernelIdeal.Frame.Region6
public import Idealize.ShloMosaic.Lib.Pipeline.ValueKit
public import proofs.«01_k».proof.Proof.Spec

@[expose] public section

set_option maxRecDepth 16384

/-! The seventh call, the spatial gating unit: what one point of its grid computes from its blocks. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

/-- The causal mask's choice, as a comparison of coordinates. -/
theorem sel_ge (a b : Fin 128) (p q : EReal) :
    Scalar.select (IntOp.cmpi CmpIPredicate.sge (BitVec.ofNat 32 a.val) (BitVec.ofNat 32 b.val)) p q = if b.val ≤ a.val then p else q := by
  have ha := a.isLt
  have hb := b.isLt
  word_cmp

/-- The gated block at row `r` and column `d`: `vn` is the normalised block. -/
def sguBlk (x0 : FVec Ideal S512x1024 .bf16) (vn : FVec Ideal S512x1024 .bf16) (x2 : FVec Ideal S512x1024 .bf16)
    (x5 : FVec Ideal S8x128x128 .f32) (x6 : FVec Ideal S128x8 .f32) (r : Fin 512) (d : Fin 1024) : EReal :=
  x0 (ix2 r d) * (Cert.Spec.dot (fun k : Fin 128 => if k.val ≤ r.val % 128 then x5 (ix3 ⟨d.val / 128, by omega⟩ ⟨r.val % 128, by omega⟩ k) else 0)
      (fun k : Fin 128 => vn (ix2 ⟨r.val / 128 * 128 + k.val, by omega⟩ d))
    + x6 (ix2 ⟨r.val % 128, by omega⟩ ⟨d.val / 128, by omega⟩)) * x2 (ix2 r d)

set_option maxHeartbeats 1600000 in
/-- What a point of the call leaves in its block: its thirty-two stores, one per chunk and group, are one formula of the block. -/
theorem sgu_block (x0 : FVec Ideal S512x1024 .bf16) (x1 : FVec Ideal S512x1024 .f32) (x2 : FVec Ideal S512x1024 .bf16)
    (x3 : FVec Ideal S1x1024 .f32) (x4 : FVec Ideal S1x1024 .f32) (x5 : FVec Ideal S8x128x128 .f32) (x6 : FVec Ideal S128x8 .f32)
    (y : S512x1024.Idx) : out6_7 (F := Ideal) x0 x1 x2 x3 x4 x5 x6 y
      = sguBlk x0 (k6_pay1 (F := Ideal) x1 x3 x4) x2 x5 x6 (y 0) (y 1) := by
  canon_tiles x h
  all_goals
    open_payloads
    pointwise [sguBlk, Cert.Spec.dot, sel_ge]
    blk_point
    exact propext (by omega)

end Cert.KernelIdeal.Part
-- ==== Proof.Part.Sgu.lean ====
module

public import proofs.«01_k».proof.Proof.Gen.KernelIdeal.Frame.Region6
public import Idealize.ShloMosaic.Lib.Pipeline.ValueKit
public import proofs.«01_k».proof.Proof.Part.SguBlock

@[expose] public section

set_option maxRecDepth 16384

/-! The seventh call, the spatial gating unit: the array it leaves. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx6 : ∀ t : Fin cfg6.N, win6_0.index t = ![t.val, 2] ∧ win6_1.index t = ![t.val, 1] ∧ win6_2.index t = ![t.val, 3]
    ∧ win6_3.index t = ![0, 0] ∧ win6_4.index t = ![0, 0] ∧ win6_5.index t = ![0, 0, 0] ∧ win6_6.index t = ![0, 0]
    ∧ win6_7.index t = ![t.val, 0] :=
  (by decide +kernel : ∀ t : Fin grid6.N, _)

/-- The array the call leaves. -/
def G6 (u : FVec Ideal S16384x3072 .bf16) (v : FVec Ideal S16384x2048 .f32) (z : FVec Ideal S16384x4096 .bf16)
    (g b : FVec Ideal S1x1024 .f32) (w : FVec Ideal S8x128x128 .f32) (bt : FVec Ideal S128x8 .f32) : FVec Ideal S16384x1024 .bf16 := fun i =>
  have h0 : (i 0).val < 16384 := (i 0).isLt
  have h1 : (i 1).val < 1024 := (i 1).isLt
  u (ix2 (i 0) ⟨2048 + (i 1).val, by omega⟩)
    * (Cert.Spec.dot (fun k : Fin 128 => if k.val ≤ (i 0).val % 128 then w (ix3 ⟨(i 1).val / 128, by omega⟩ ⟨(i 0).val % 128, by omega⟩ k) else 0)
        (fun k : Fin 128 => Cert.Spec.ln (fun e => v (ix2 ⟨(i 0).val / 128 * 128 + k.val, by omega⟩ ⟨1024 + e.val, by omega⟩))
          (fun e => g (ix2 0 e)) (fun e => b (ix2 0 e)) (i 1))
      + bt (ix2 ⟨(i 0).val % 128, by omega⟩ ⟨(i 1).val / 128, by omega⟩))
    * z (ix2 (i 0) ⟨3072 + (i 1).val, by omega⟩)

set_option maxHeartbeats 1600000 in
theorem final6 (c : Dev nD) : (dat6 V c).arrAt 7 cfg6.N
    = G6 (V c main_v5) (V c main_v6) (V c main_v7) (V c main_v15) (V c main_v16) (V c main_arg12) (V c main_v17) := by
  refine (dat6 V c).arrAt_eq_of_covers 7 _ (by decide +kernel) fun t hf y => ?_
  blk_simp
  rw [after6_7]
  refine (sgu_block _ _ _ _ _ _ _ y).trans ?_
  pointwise [sguBlk, k6_pay1, G6, Cert.Spec.ln, Cert.Spec.dot]
  have hm : (((View.whole main_v18).slice (win6_7.rect t)).emb y 0).val = 512 * t.val + (y 0).val := by
    refine (Pipeline.Window.rect_emb_val_off win6_7 t y 0).trans ?_
    rw [(idx6 t).2.2.2.2.2.2.2]
    exact congrArg (· + (y 0).val) (Nat.mul_comm _ _)
  have hm' : (((View.whole main_v18).slice (win6_7.rect t)).emb y 0).val % 128 = (y 0).val % 128 := by
    rw [hm]; omega
  simp only [hm']
  blk_point [iblk6, idx6 t]

end Cert.KernelIdeal.Part
-- ==== Proof.Part.Merge.lean ====
module

public import proofs.«01_k».proof.Proof.Gen.KernelIdeal.Frame.Region7
public import Idealize.ShloMosaic.Lib.Pipeline.ValueKit
public import proofs.«01_k».proof.Proof.Spec

@[expose] public section

set_option maxRecDepth 16384

/-! The eighth call: the three branches projected, gated by the logistic of their own slice of the input projection, and summed. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx7 : ∀ t : Fin cfg7.N, win7_0.index t = ![t.val % 32, 0] ∧ win7_1.index t = ![t.val % 32, 0]
    ∧ win7_2.index t = ![t.val % 32, 0] ∧ win7_3.index t = ![t.val % 32, 0]
    ∧ win7_4.index t = ![13360 + 512 * (t.val / 32), 0] ∧ win7_5.index t = ![17456 + 512 * (t.val / 32), 0]
    ∧ win7_6.index t = ![21552 + 512 * (t.val / 32), 0] ∧ win7_7.index t = ![0, t.val / 32]
    ∧ win7_8.index t = ![0, t.val / 32] ∧ win7_9.index t = ![0, t.val / 32] ∧ win7_10.index t = ![t.val % 32, t.val / 32] :=
  (by decide +kernel : ∀ t : Fin grid7.N, _)

/-- The weight rows that window 4 of the call reads at a point, at coordinates. -/
theorem rows7_4 (c : Dev nD) (t : Fin cfg7.N) (a : Fin 512) (k : Fin 4096) (j : Fin 25648) (hj : j.val = 13360 + 512 * (t.val / 32) + a.val) :
    (iblk7 V c 4 t : FVec Ideal S512x4096 .bf16) (ix2 a k) = (V c main_v2 : FVec Ideal S25648x4096 .bf16) (ix2 j k) := by
  refine congrArg (V c main_v2) (funext fun b => Fin.ext ?_)
  refine (Pipeline.Window.rect_emb_val_off win7_4 t (ix2 a k) b).trans ?_
  rw [(idx7 t).2.2.2.2.1]
  match b with
  | 0 => exact hj.symm
  | 1 => exact Nat.zero_add _

/-- The weight rows that window 5 of the call reads at a point, at coordinates. -/
theorem rows7_5 (c : Dev nD) (t : Fin cfg7.N) (a : Fin 512) (k : Fin 4096) (j : Fin 25648) (hj : j.val = 17456 + 512 * (t.val / 32) + a.val) :
    (iblk7 V c 5 t : FVec Ideal S512x4096 .bf16) (ix2 a k) = (V c main_v2 : FVec Ideal S25648x4096 .bf16) (ix2 j k) := by
  refine congrArg (V c main_v2) (funext fun b => Fin.ext ?_)
  refine (Pipeline.Window.rect_emb_val_off win7_5 t (ix2 a k) b).trans ?_
  rw [(idx7 t).2.2.2.2.2.1]
  match b with
  | 0 => exact hj.symm
  | 1 => exact Nat.zero_add _

/-- The weight rows that window 6 of the call reads at a point, at coordinates. -/
theorem rows7_6 (c : Dev nD) (t : Fin cfg7.N) (a : Fin 512) (k : Fin 4096) (j : Fin 25648) (hj : j.val = 21552 + 512 * (t.val / 32) + a.val) :
    (iblk7 V c 6 t : FVec Ideal S512x4096 .bf16) (ix2 a k) = (V c main_v2 : FVec Ideal S25648x4096 .bf16) (ix2 j k) := by
  refine congrArg (V c main_v2) (funext fun b => Fin.ext ?_)
  refine (Pipeline.Window.rect_emb_val_off win7_6 t (ix2 a k) b).trans ?_
  rw [(idx7 t).2.2.2.2.2.2.1]
  match b with
  | 0 => exact hj.symm
  | 1 => exact Nat.zero_add _

/-- The weight row behind column `j` of gate 0. -/
def col7_4 (j : Fin 4096) : Fin 25648 := ⟨13360 + j.val, by omega⟩
/-- The weight row behind column `j` of gate 1. -/
def col7_5 (j : Fin 4096) : Fin 25648 := ⟨17456 + j.val, by omega⟩
/-- The weight row behind column `j` of gate 2. -/
def col7_6 (j : Fin 4096) : Fin 25648 := ⟨21552 + j.val, by omega⟩

/-- The array the call leaves. -/
def G7 (h : FVec Ideal S16384x4096 .bf16) (a : FVec Ideal S16384x2048 .bf16) (b : FVec Ideal S16384x1024 .bf16)
    (g : FVec Ideal S16384x1024 .bf16) (w : FVec Ideal S25648x4096 .bf16) (wa : FVec Ideal S2048x4096 .bf16)
    (wb : FVec Ideal S1024x4096 .bf16) (wc : FVec Ideal S1024x4096 .bf16) : FVec Ideal S16384x4096 .bf16 := fun i =>
  Cert.Spec.sigm (Cert.Spec.dot (fun k : Fin 4096 => h (ix2 (i 0) k)) (fun k => w (ix2 (col7_4 (i 1)) k)))
      * Cert.Spec.dot (fun k : Fin 2048 => a (ix2 (i 0) k)) (fun k => wa (ix2 k (i 1)))
    + Cert.Spec.sigm (Cert.Spec.dot (fun k : Fin 4096 => h (ix2 (i 0) k)) (fun k => w (ix2 (col7_5 (i 1)) k)))
      * Cert.Spec.dot (fun k : Fin 1024 => b (ix2 (i 0) k)) (fun k => wb (ix2 k (i 1)))
    + Cert.Spec.sigm (Cert.Spec.dot (fun k : Fin 4096 => h (ix2 (i 0) k)) (fun k => w (ix2 (col7_6 (i 1)) k)))
      * Cert.Spec.dot (fun k : Fin 1024 => g (ix2 (i 0) k)) (fun k => wc (ix2 k (i 1)))

/-- Gate 0's product over a block is the one over the arrays. -/
theorem gate7_4 (c : Dev nD) (t : Fin cfg7.N) (y : S512x512.Idx) :
    Cert.Spec.dot (fun k : Fin 4096 => (iblk7 V c 0 t : FVec Ideal S512x4096 .bf16) (ix2 (y 0) k))
        (fun k => (iblk7 V c 4 t : FVec Ideal S512x4096 .bf16) (ix2 (y 1) k))
      = Cert.Spec.dot (fun k : Fin 4096 => (V c main_v4 : FVec Ideal S16384x4096 .bf16) (ix2 (((cfg7.win 10).blk t).view.emb y 0) k))
        (fun k => (V c main_v2 : FVec Ideal S25648x4096 .bf16) (ix2 (col7_4 (((cfg7.win 10).blk t).view.emb y 1)) k)) := by
  refine Cert.Spec.dot_congr (fun k => ?_) (fun k => rows7_4 V c t _ k _ ?_)
  · blk_point [iblk7, idx7 t]
  · blk_simp [idx7 t, col7_4]
    idx_bounds
    dsimp only
    omega

/-- Gate 1's product over a block is the one over the arrays. -/
theorem gate7_5 (c : Dev nD) (t : Fin cfg7.N) (y : S512x512.Idx) :
    Cert.Spec.dot (fun k : Fin 4096 => (iblk7 V c 0 t : FVec Ideal S512x4096 .bf16) (ix2 (y 0) k))
        (fun k => (iblk7 V c 5 t : FVec Ideal S512x4096 .bf16) (ix2 (y 1) k))
      = Cert.Spec.dot (fun k : Fin 4096 => (V c main_v4 : FVec Ideal S16384x4096 .bf16) (ix2 (((cfg7.win 10).blk t).view.emb y 0) k))
        (fun k => (V c main_v2 : FVec Ideal S25648x4096 .bf16) (ix2 (col7_5 (((cfg7.win 10).blk t).view.emb y 1)) k)) := by
  refine Cert.Spec.dot_congr (fun k => ?_) (fun k => rows7_5 V c t _ k _ ?_)
  · blk_point [iblk7, idx7 t]
  · blk_simp [idx7 t, col7_5]
    idx_bounds
    dsimp only
    omega

/-- Gate 2's product over a block is the one over the arrays. -/
theorem gate7_6 (c : Dev nD) (t : Fin cfg7.N) (y : S512x512.Idx) :
    Cert.Spec.dot (fun k : Fin 4096 => (iblk7 V c 0 t : FVec Ideal S512x4096 .bf16) (ix2 (y 0) k))
        (fun k => (iblk7 V c 6 t : FVec Ideal S512x4096 .bf16) (ix2 (y 1) k))
      = Cert.Spec.dot (fun k : Fin 4096 => (V c main_v4 : FVec Ideal S16384x4096 .bf16) (ix2 (((cfg7.win 10).blk t).view.emb y 0) k))
        (fun k => (V c main_v2 : FVec Ideal S25648x4096 .bf16) (ix2 (col7_6 (((cfg7.win 10).blk t).view.emb y 1)) k)) := by
  refine Cert.Spec.dot_congr (fun k => ?_) (fun k => rows7_6 V c t _ k _ ?_)
  · blk_point [iblk7, idx7 t]
  · blk_simp [idx7 t, col7_6]
    idx_bounds
    dsimp only
    omega

/-- Branch 0's projection over a block is the one over the arrays. -/
theorem branch7_1 (c : Dev nD) (t : Fin cfg7.N) (y : S512x512.Idx) :
    Cert.Spec.dot (fun k : Fin 2048 => (iblk7 V c 1 t : FVec Ideal S512x2048 .bf16) (ix2 (y 0) k))
        (fun k => (iblk7 V c 7 t : FVec Ideal S2048x512 .bf16) (ix2 k (y 1)))
      = Cert.Spec.dot (fun k : Fin 2048 => (V c main_v19 : FVec Ideal S16384x2048 .bf16) (ix2 (((cfg7.win 10).blk t).view.emb y 0) k))
        (fun k => (V c main_v21 : FVec Ideal S2048x4096 .bf16) (ix2 k (((cfg7.win 10).blk t).view.emb y 1))) := by
  refine Cert.Spec.dot_congr (fun k => ?_) (fun k => ?_)
  · blk_point [iblk7, idx7 t]
  · blk_point [iblk7, idx7 t]

/-- Branch 1's projection over a block is the one over the arrays. -/
theorem branch7_2 (c : Dev nD) (t : Fin cfg7.N) (y : S512x512.Idx) :
    Cert.Spec.dot (fun k : Fin 1024 => (iblk7 V c 2 t : FVec Ideal S512x1024 .bf16) (ix2 (y 0) k))
        (fun k => (iblk7 V c 8 t : FVec Ideal S1024x512 .bf16) (ix2 k (y 1)))
      = Cert.Spec.dot (fun k : Fin 1024 => (V c main_v20 : FVec Ideal S16384x1024 .bf16) (ix2 (((cfg7.win 10).blk t).view.emb y 0) k))
        (fun k => (V c main_v22 : FVec Ideal S1024x4096 .bf16) (ix2 k (((cfg7.win 10).blk t).view.emb y 1))) := by
  refine Cert.Spec.dot_congr (fun k => ?_) (fun k => ?_)
  · blk_point [iblk7, idx7 t]
  · blk_point [iblk7, idx7 t]

/-- Branch 2's projection over a block is the one over the arrays. -/
theorem branch7_3 (c : Dev nD) (t : Fin cfg7.N) (y : S512x512.Idx) :
    Cert.Spec.dot (fun k : Fin 1024 => (iblk7 V c 3 t : FVec Ideal S512x1024 .bf16) (ix2 (y 0) k))
        (fun k => (iblk7 V c 9 t : FVec Ideal S1024x512 .bf16) (ix2 k (y 1)))
      = Cert.Spec.dot (fun k : Fin 1024 => (V c main_v18 : FVec Ideal S16384x1024 .bf16) (ix2 (((cfg7.win 10).blk t).view.emb y 0) k))
        (fun k => (V c main_v23 : FVec Ideal S1024x4096 .bf16) (ix2 k (((cfg7.win 10).blk t).view.emb y 1))) := by
  refine Cert.Spec.dot_congr (fun k => ?_) (fun k => ?_)
  · blk_point [iblk7, idx7 t]
  · blk_point [iblk7, idx7 t]

theorem final7 (c : Dev nD) : (dat7 V c).arrAt 10 cfg7.N
    = G7 (V c main_v4) (V c main_v19) (V c main_v20) (V c main_v18) (V c main_v2) (V c main_v21) (V c main_v22) (V c main_v23) := by
  refine (dat7 V c).arrAt_eq_of_covers 10 _ (by decide +kernel) fun t hf y => ?_
  blk_simp
  rw [after7_10]; frame_out
  pointwise [k7_pay1, k7_pay2, k7_pay3, k7_pay4, G7]
  exact congrArg₂ (fun a b : EReal => a + b) (congrArg₂ (fun a b : EReal => a + b)
    (congrArg₂ (fun a b : EReal => a * b) (Cert.Spec.sigm_of (gate7_4 V c t y)) (branch7_1 V c t y))
    (congrArg₂ (fun a b : EReal => a * b) (Cert.Spec.sigm_of (gate7_5 V c t y)) (branch7_2 V c t y)))
    (congrArg₂ (fun a b : EReal => a * b) (Cert.Spec.sigm_of (gate7_6 V c t y)) (branch7_3 V c t y))

end Cert.KernelIdeal.Part
-- ==== Proof.Part.Out.lean ====
module

public import proofs.«01_k».proof.Proof.Gen.KernelIdeal.Frame.Region8
public import Idealize.ShloMosaic.Lib.Pipeline.ValueKit
public import proofs.«01_k».proof.Proof.Spec

@[expose] public section

set_option maxRecDepth 16384

/-! The ninth call: the output projection, added to the layer's input. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx8 : ∀ t : Fin cfg8.N, win8_0.index t = ![t.val / 4, 0] ∧ win8_1.index t = ![0, t.val % 4]
    ∧ win8_2.index t = ![t.val / 4, t.val % 4] ∧ win8_3.index t = ![t.val / 4, t.val % 4] :=
  (by decide +kernel : ∀ t : Fin grid8.N, _)

/-- The array the call leaves. -/
def G8 (y : FVec Ideal S16384x4096 .bf16) (w : FVec Ideal S4096x4096 .bf16) (x : FVec Ideal S16384x4096 .f32) :
    FVec Ideal S16384x4096 .f32 := fun i =>
  x i + Cert.Spec.dot (fun k : Fin 4096 => y (ix2 (i 0) k)) (fun k => w (ix2 k (i 1)))

theorem final8 (c : Dev nD) : (dat8 V c).arrAt 3 cfg8.N = G8 (V c main_v24) (V c main_v25) (V c main_v0) := by
  refine (dat8 V c).arrAt_eq_of_covers 3 _ (by decide +kernel) fun t hf y => ?_
  blk_simp
  rw [after8_3]; frame_out
  pointwise [k8_pay1, G8, Cert.Spec.dot]
  blk_point [iblk8, idx8 t]

end Cert.KernelIdeal.Part
-- ==== Proof.Part.Norm.lean ====
module

public import proofs.«01_k».proof.Proof.Gen.KernelIdeal.Frame.Region9
public import Idealize.ShloMosaic.Lib.Pipeline.ValueKit
public import proofs.«01_k».proof.Proof.Spec

@[expose] public section

set_option maxRecDepth 16384

/-! The last call: the root-mean-square norm of every row of the residual sum. -/

noncomputable section

namespace Cert.KernelIdeal.Part

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx9 : ∀ t : Fin cfg9.N, win9_0.index t = ![t.val, 0] ∧ win9_1.index t = ![0, 0] ∧ win9_2.index t = ![t.val, 0] :=
  (by decide +kernel : ∀ t : Fin grid9.N, _)

/-- The array the call leaves. -/
def G9 (x : FVec Ideal S16384x4096 .f32) (g : FVec Ideal S1x4096 .f32) : FVec Ideal S16384x4096 .f32 := fun i =>
  Cert.Spec.rms (fun k => x (ix2 (i 0) k)) (fun k => g (ix2 0 k)) (i 1)

theorem final9 (c : Dev nD) : (dat9 V c).arrAt 2 cfg9.N = G9 (V c main_v26) (V c main_v27) := by
  refine (dat9 V c).arrAt_eq_of_covers 2 _ (by decide +kernel) fun t hf y => ?_
  blk_simp
  rw [after9_2]; frame_out
  pointwise [k9_pay1, G9, Cert.Spec.rms]
  blk_point [iblk9, idx9 t]

end Cert.KernelIdeal.Part
-- ==== Proof.Part.Chain.lean ====
module

public import proofs.«01_k».proof.Proof.Gen.KernelIdeal.Frame.Fold0
public import proofs.«01_k».proof.Proof.Part.Rms
public import proofs.«01_k».proof.Proof.Part.Proj1
public import proofs.«01_k».proof.Proof.Part.Proj2
public import proofs.«01_k».proof.Proof.Part.Proj3
public import proofs.«01_k».proof.Proof.Part.Glu
public import proofs.«01_k».proof.Proof.Part.Conv
public import proofs.«01_k».proof.Proof.Part.Sgu
public import proofs.«01_k».proof.Proof.Part.Merge
public import proofs.«01_k».proof.Proof.Part.Out
public import proofs.«01_k».proof.Proof.Part.Norm
public import Idealize.ShloMosaic.Lib.StableHlo.Run

@[expose] public section

set_option maxRecDepth 16384

/-! What each call finds in its arrays and leaves in its result, from the arguments to the kernel's result. -/

noncomputable section

namespace Cert.KernelIdeal.Part

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- Argument 0. -/
abbrev a0 : FVec Ideal S4x4096x4096 .f32 := m ((c : Thread nD τ).loc main_arg0)
/-- Argument 1. -/
abbrev a1 : FVec Ideal S4096 .f32 := m ((c : Thread nD τ).loc main_arg1)
/-- Argument 2. -/
abbrev a2 : FVec Ideal S4x4096x2048 .bf16 := m ((c : Thread nD τ).loc main_arg2)
/-- Argument 3. -/
abbrev a3 : FVec Ideal S4096x25648 .f32 := m ((c : Thread nD τ).loc main_arg3)
/-- Argument 4. -/
abbrev a4 : FVec Ideal S31x1024 .f32 := m ((c : Thread nD τ).loc main_arg4)
/-- Argument 5. -/
abbrev a5 : FVec Ideal S1024 .f32 := m ((c : Thread nD τ).loc main_arg5)
/-- Argument 6. -/
abbrev a6 : FVec Ideal S1024 .f32 := m ((c : Thread nD τ).loc main_arg6)
/-- Argument 7. -/
abbrev a7 : FVec Ideal S1024 .f32 := m ((c : Thread nD τ).loc main_arg7)
/-- Argument 8. -/
abbrev a8 : FVec Ideal S2048x4096 .f32 := m ((c : Thread nD τ).loc main_arg8)
/-- Argument 9. -/
abbrev a9 : FVec Ideal S1024x4096 .f32 := m ((c : Thread nD τ).loc main_arg9)
/-- Argument 10. -/
abbrev a10 : FVec Ideal S1024 .f32 := m ((c : Thread nD τ).loc main_arg10)
/-- Argument 11. -/
abbrev a11 : FVec Ideal S1024 .f32 := m ((c : Thread nD τ).loc main_arg11)
/-- Argument 12. -/
abbrev a12 : FVec Ideal S8x128x128 .f32 := m ((c : Thread nD τ).loc main_arg12)
/-- Argument 13. -/
abbrev a13 : FVec Ideal S8x128 .f32 := m ((c : Thread nD τ).loc main_arg13)
/-- Argument 14. -/
abbrev a14 : FVec Ideal S1024x4096 .f32 := m ((c : Thread nD τ).loc main_arg14)
/-- Argument 15. -/
abbrev a15 : FVec Ideal S4096x4096 .f32 := m ((c : Thread nD τ).loc main_arg15)
/-- Argument 16. -/
abbrev a16 : FVec Ideal S4096 .f32 := m ((c : Thread nD τ).loc main_arg16)
/-- The kernel's value 0. -/
def r0 : FVec Ideal S16384x4096 .f32 := shapeCast S16384x4096 (a0 m c) shapeCasts_S4x4096x4096_S16384x4096
/-- The kernel's value 2. -/
def r2 : FVec Ideal S25648x4096 .bf16 := truncf (F := Ideal) .bf16 (transpose S25648x4096 [1, 0] (a3 m c) transposes_S4096x25648_S25648x4096_1_0) bitsLt_bf16_f32
/-- The kernel's value 3. -/
def r3 : FVec Ideal S1x4096 .f32 := shapeCast S1x4096 (a1 m c) shapeCasts_S4096_S1x4096
/-- What call 0 leaves. -/
def r4 : FVec Ideal S16384x4096 .bf16 := G0 (r0 m c) (r3 m c)
/-- What call 1 leaves. -/
def r5 : FVec Ideal S16384x3072 .bf16 := G1 (r4 m c) (r2 m c)
/-- What call 2 leaves. -/
def r6 : FVec Ideal S16384x2048 .f32 := G2 (r4 m c) (r2 m c)
/-- What call 3 leaves. -/
def r7 : FVec Ideal S16384x4096 .bf16 := G3 (r4 m c) (r2 m c)
/-- What call 4 leaves. -/
def r8 : FVec Ideal S16384x1024 .f32 := G4 (r4 m c) (r2 m c)
/-- The kernel's value 9. -/
def r9 : FVec Ideal S4x4096x1024 .f32 := shapeCast S4x4096x1024 (r8 m c) shapeCasts_S16384x1024_S4x4096x1024
/-- The kernel's value 10. -/
def r10 : FVec Ideal S4x4096x4096 .bf16 := shapeCast S4x4096x4096 (r7 m c) shapeCasts_S16384x4096_S4x4096x4096
/-- The kernel's value 11. -/
def r11 : FVec Ideal S1x1024 .f32 := shapeCast S1x1024 (a5 m c) shapeCasts_S1024_S1x1024
/-- The kernel's value 12. -/
def r12 : FVec Ideal S1x1024 .f32 := shapeCast S1x1024 (a6 m c) shapeCasts_S1024_S1x1024
/-- The kernel's value 13. -/
def r13 : FVec Ideal S1x1024 .f32 := shapeCast S1x1024 (a7 m c) shapeCasts_S1024_S1x1024
/-- What call 5 leaves. -/
def r14 : FVec Ideal S4x4096x1024 .bf16 := G5 (r9 m c) (a4 m c) (r11 m c) (r12 m c) (r13 m c) (r10 m c)
/-- The kernel's value 15. -/
def r15 : FVec Ideal S1x1024 .f32 := shapeCast S1x1024 (a10 m c) shapeCasts_S1024_S1x1024
/-- The kernel's value 16. -/
def r16 : FVec Ideal S1x1024 .f32 := shapeCast S1x1024 (a11 m c) shapeCasts_S1024_S1x1024
/-- The kernel's value 17. -/
def r17 : FVec Ideal S128x8 .f32 := transpose S128x8 [1, 0] (a13 m c) transposes_S8x128_S128x8_1_0
/-- What call 6 leaves. -/
def r18 : FVec Ideal S16384x1024 .bf16 := G6 (r5 m c) (r6 m c) (r7 m c) (r15 m c) (r16 m c) (a12 m c) (r17 m c)
/-- The kernel's value 19. -/
def r19 : FVec Ideal S16384x2048 .bf16 := shapeCast S16384x2048 (a2 m c) shapeCasts_S4x4096x2048_S16384x2048
/-- The kernel's value 20. -/
def r20 : FVec Ideal S16384x1024 .bf16 := shapeCast S16384x1024 (r14 m c) shapeCasts_S4x4096x1024_S16384x1024
/-- The kernel's value 21. -/
def r21 : FVec Ideal S2048x4096 .bf16 := truncf (F := Ideal) .bf16 (a8 m c) bitsLt_bf16_f32
/-- The kernel's value 22. -/
def r22 : FVec Ideal S1024x4096 .bf16 := truncf (F := Ideal) .bf16 (a9 m c) bitsLt_bf16_f32
/-- The kernel's value 23. -/
def r23 : FVec Ideal S1024x4096 .bf16 := truncf (F := Ideal) .bf16 (a14 m c) bitsLt_bf16_f32
/-- What call 7 leaves. -/
def r24 : FVec Ideal S16384x4096 .bf16 := G7 (r4 m c) (r19 m c) (r20 m c) (r18 m c) (r2 m c) (r21 m c) (r22 m c) (r23 m c)
/-- The kernel's value 25. -/
def r25 : FVec Ideal S4096x4096 .bf16 := truncf (F := Ideal) .bf16 (a15 m c) bitsLt_bf16_f32
/-- What call 8 leaves. -/
def r26 : FVec Ideal S16384x4096 .f32 := G8 (r24 m c) (r25 m c) (r0 m c)
/-- The kernel's value 27. -/
def r27 : FVec Ideal S1x4096 .f32 := shapeCast S1x4096 (a16 m c) shapeCasts_S4096_S1x4096
/-- What call 9 leaves. -/
def r28 : FVec Ideal S16384x4096 .f32 := G9 (r26 m c) (r27 m c)

theorem at0 : (W1 m ρ c (Proc.devRef .tc main_v0) : FVec Ideal S16384x4096 .f32) = r0 m c := by
  show (StableHlo.after hostOps0 (W0 m ρ c) (Proc.devRef .tc main_v0) : FVec Ideal S16384x4096 .f32) = _
  after_results
  rfl
theorem at2 : (W1 m ρ c (Proc.devRef .tc main_v2) : FVec Ideal S25648x4096 .bf16) = r2 m c := by
  show (StableHlo.after hostOps0 (W0 m ρ c) (Proc.devRef .tc main_v2) : FVec Ideal S25648x4096 .bf16) = _
  after_results
  rfl
theorem at3 : (W1 m ρ c (Proc.devRef .tc main_v3) : FVec Ideal S1x4096 .f32) = r3 m c := by
  show (StableHlo.after hostOps0 (W0 m ρ c) (Proc.devRef .tc main_v3) : FVec Ideal S1x4096 .f32) = _
  after_results
  rfl
theorem at4 : (W2 m ρ c (Proc.devRef .tc main_v4) : FVec Ideal S16384x4096 .bf16) = r4 m c := by
  refine (W2_arr m ρ c 2).trans ((final0 (V1 m ρ) c).trans ?_)
  have h0 : V1 m ρ c main_v0 = r0 m c := (at0 m ρ c)
  have h1 : V1 m ρ c main_v3 = r3 m c := (at3 m ρ c)
  rw [h0, h1]
  rfl
theorem at5 : (W3 m ρ c (Proc.devRef .tc main_v5) : FVec Ideal S16384x3072 .bf16) = r5 m c := by
  refine (W3_arr m ρ c 2).trans ((final1 (V2 m ρ) c).trans ?_)
  have h0 : V2 m ρ c main_v4 = r4 m c := (at4 m ρ c)
  have h1 : V2 m ρ c main_v2 = r2 m c := ((W2_of m ρ c main_v2 (by decide)).trans (at2 m ρ c))
  rw [h0, h1]
  rfl
theorem at6 : (W4 m ρ c (Proc.devRef .tc main_v6) : FVec Ideal S16384x2048 .f32) = r6 m c := by
  refine (W4_arr m ρ c 2).trans ((final2 (V3 m ρ) c).trans ?_)
  have h0 : V3 m ρ c main_v4 = r4 m c := ((W3_of m ρ c main_v4 (by decide)).trans (at4 m ρ c))
  have h1 : V3 m ρ c main_v2 = r2 m c := (((W3_of m ρ c main_v2 (by decide)).trans (W2_of m ρ c main_v2 (by decide))).trans (at2 m ρ c))
  rw [h0, h1]
  rfl
theorem at7 : (W5 m ρ c (Proc.devRef .tc main_v7) : FVec Ideal S16384x4096 .bf16) = r7 m c := by
  refine (W5_arr m ρ c 2).trans ((final3 (V4 m ρ) c).trans ?_)
  have h0 : V4 m ρ c main_v4 = r4 m c := (((W4_of m ρ c main_v4 (by decide)).trans (W3_of m ρ c main_v4 (by decide))).trans (at4 m ρ c))
  have h1 : V4 m ρ c main_v2 = r2 m c := ((((W4_of m ρ c main_v2 (by decide)).trans (W3_of m ρ c main_v2 (by decide))).trans (W2_of m ρ c main_v2 (by decide))).trans (at2 m ρ c))
  rw [h0, h1]
  rfl
theorem at8 : (W6 m ρ c (Proc.devRef .tc main_v8) : FVec Ideal S16384x1024 .f32) = r8 m c := by
  refine (W6_arr m ρ c 3).trans ((final4 (V5 m ρ) c).trans ?_)
  have h0 : V5 m ρ c main_v4 = r4 m c := ((((W5_of m ρ c main_v4 (by decide)).trans (W4_of m ρ c main_v4 (by decide))).trans (W3_of m ρ c main_v4 (by decide))).trans (at4 m ρ c))
  have h1 : V5 m ρ c main_v2 = r2 m c := (((((W5_of m ρ c main_v2 (by decide)).trans (W4_of m ρ c main_v2 (by decide))).trans (W3_of m ρ c main_v2 (by decide))).trans (W2_of m ρ c main_v2 (by decide))).trans (at2 m ρ c))
  rw [h0, h1]
  rfl
theorem at9 : (W7 m ρ c (Proc.devRef .tc main_v9) : FVec Ideal S4x4096x1024 .f32) = r9 m c := by
  show (StableHlo.after hostOps5 (W6 m ρ c) (Proc.devRef .tc main_v9) : FVec Ideal S4x4096x1024 .f32) = _
  after_results
  have h := (at8 m ρ c)
  exact congrArg (fun x => shapeCast S4x4096x1024 (x) shapeCasts_S16384x1024_S4x4096x1024) h
theorem at10 : (W7 m ρ c (Proc.devRef .tc main_v10) : FVec Ideal S4x4096x4096 .bf16) = r10 m c := by
  show (StableHlo.after hostOps5 (W6 m ρ c) (Proc.devRef .tc main_v10) : FVec Ideal S4x4096x4096 .bf16) = _
  after_results
  have h := ((W6_of m ρ c main_v7 (by decide)).trans (at7 m ρ c))
  exact congrArg (fun x => shapeCast S4x4096x4096 (x) shapeCasts_S16384x4096_S4x4096x4096) h
theorem at11 : (W7 m ρ c (Proc.devRef .tc main_v11) : FVec Ideal S1x1024 .f32) = r11 m c := by
  show (StableHlo.after hostOps5 (W6 m ρ c) (Proc.devRef .tc main_v11) : FVec Ideal S1x1024 .f32) = _
  after_results
  have h := W6_args m ρ c main_arg5 (by decide)
  exact congrArg (fun x : FVec Ideal S1024 .f32 => (shapeCast S1x1024 (x) shapeCasts_S1024_S1x1024 : FVec Ideal S1x1024 .f32)) h
theorem at12 : (W7 m ρ c (Proc.devRef .tc main_v12) : FVec Ideal S1x1024 .f32) = r12 m c := by
  show (StableHlo.after hostOps5 (W6 m ρ c) (Proc.devRef .tc main_v12) : FVec Ideal S1x1024 .f32) = _
  after_results
  have h := W6_args m ρ c main_arg6 (by decide)
  exact congrArg (fun x : FVec Ideal S1024 .f32 => (shapeCast S1x1024 (x) shapeCasts_S1024_S1x1024 : FVec Ideal S1x1024 .f32)) h
theorem at13 : (W7 m ρ c (Proc.devRef .tc main_v13) : FVec Ideal S1x1024 .f32) = r13 m c := by
  show (StableHlo.after hostOps5 (W6 m ρ c) (Proc.devRef .tc main_v13) : FVec Ideal S1x1024 .f32) = _
  after_results
  have h := W6_args m ρ c main_arg7 (by decide)
  exact congrArg (fun x : FVec Ideal S1024 .f32 => (shapeCast S1x1024 (x) shapeCasts_S1024_S1x1024 : FVec Ideal S1x1024 .f32)) h
theorem at14 : (W8 m ρ c (Proc.devRef .tc main_v14) : FVec Ideal S4x4096x1024 .bf16) = r14 m c := by
  refine (W8_arr m ρ c 7).trans ((final5 (V7 m ρ) c).trans ?_)
  have h0 : V7 m ρ c main_v9 = r9 m c := (at9 m ρ c)
  have h1 : V7 m ρ c main_arg4 = a4 m c := (W7_args m ρ c main_arg4 (by decide))
  have h2 : V7 m ρ c main_v11 = r11 m c := (at11 m ρ c)
  have h3 : V7 m ρ c main_v12 = r12 m c := (at12 m ρ c)
  have h4 : V7 m ρ c main_v13 = r13 m c := (at13 m ρ c)
  have h5 : V7 m ρ c main_v10 = r10 m c := (at10 m ρ c)
  rw [h0, h1, h2, h3, h4, h5]
  rfl
theorem at15 : (W9 m ρ c (Proc.devRef .tc main_v15) : FVec Ideal S1x1024 .f32) = r15 m c := by
  show (StableHlo.after hostOps6 (W8 m ρ c) (Proc.devRef .tc main_v15) : FVec Ideal S1x1024 .f32) = _
  after_results
  have h := W8_args m ρ c main_arg10 (by decide)
  exact congrArg (fun x : FVec Ideal S1024 .f32 => (shapeCast S1x1024 (x) shapeCasts_S1024_S1x1024 : FVec Ideal S1x1024 .f32)) h
theorem at16 : (W9 m ρ c (Proc.devRef .tc main_v16) : FVec Ideal S1x1024 .f32) = r16 m c := by
  show (StableHlo.after hostOps6 (W8 m ρ c) (Proc.devRef .tc main_v16) : FVec Ideal S1x1024 .f32) = _
  after_results
  have h := W8_args m ρ c main_arg11 (by decide)
  exact congrArg (fun x : FVec Ideal S1024 .f32 => (shapeCast S1x1024 (x) shapeCasts_S1024_S1x1024 : FVec Ideal S1x1024 .f32)) h
theorem at17 : (W9 m ρ c (Proc.devRef .tc main_v17) : FVec Ideal S128x8 .f32) = r17 m c := by
  show (StableHlo.after hostOps6 (W8 m ρ c) (Proc.devRef .tc main_v17) : FVec Ideal S128x8 .f32) = _
  after_results
  have h := W8_args m ρ c main_arg13 (by decide)
  exact congrArg (fun x : FVec Ideal S8x128 .f32 => (transpose S128x8 [1, 0] (x) transposes_S8x128_S128x8_1_0 : FVec Ideal S128x8 .f32)) h
theorem at18 : (W10 m ρ c (Proc.devRef .tc main_v18) : FVec Ideal S16384x1024 .bf16) = r18 m c := by
  refine (W10_arr m ρ c 7).trans ((final6 (V9 m ρ) c).trans ?_)
  have h0 : V9 m ρ c main_v5 = r5 m c := (((((((W9_of m ρ c main_v5 (by decide)).trans (W8_of m ρ c main_v5 (by decide))).trans (W7_of m ρ c main_v5 (by decide))).trans (W6_of m ρ c main_v5 (by decide))).trans (W5_of m ρ c main_v5 (by decide))).trans (W4_of m ρ c main_v5 (by decide))).trans (at5 m ρ c))
  have h1 : V9 m ρ c main_v6 = r6 m c := ((((((W9_of m ρ c main_v6 (by decide)).trans (W8_of m ρ c main_v6 (by decide))).trans (W7_of m ρ c main_v6 (by decide))).trans (W6_of m ρ c main_v6 (by decide))).trans (W5_of m ρ c main_v6 (by decide))).trans (at6 m ρ c))
  have h2 : V9 m ρ c main_v7 = r7 m c := (((((W9_of m ρ c main_v7 (by decide)).trans (W8_of m ρ c main_v7 (by decide))).trans (W7_of m ρ c main_v7 (by decide))).trans (W6_of m ρ c main_v7 (by decide))).trans (at7 m ρ c))
  have h3 : V9 m ρ c main_v15 = r15 m c := (at15 m ρ c)
  have h4 : V9 m ρ c main_v16 = r16 m c := (at16 m ρ c)
  have h5 : V9 m ρ c main_arg12 = a12 m c := (W9_args m ρ c main_arg12 (by decide))
  have h6 : V9 m ρ c main_v17 = r17 m c := (at17 m ρ c)
  rw [h0, h1, h2, h3, h4, h5, h6]
  rfl
theorem at19 : (W11 m ρ c (Proc.devRef .tc main_v19) : FVec Ideal S16384x2048 .bf16) = r19 m c := by
  show (StableHlo.after hostOps7 (W10 m ρ c) (Proc.devRef .tc main_v19) : FVec Ideal S16384x2048 .bf16) = _
  after_results
  have h := W10_args m ρ c main_arg2 (by decide)
  exact congrArg (fun x : FVec Ideal S4x4096x2048 .bf16 => (shapeCast S16384x2048 (x) shapeCasts_S4x4096x2048_S16384x2048 : FVec Ideal S16384x2048 .bf16)) h
theorem at20 : (W11 m ρ c (Proc.devRef .tc main_v20) : FVec Ideal S16384x1024 .bf16) = r20 m c := by
  show (StableHlo.after hostOps7 (W10 m ρ c) (Proc.devRef .tc main_v20) : FVec Ideal S16384x1024 .bf16) = _
  after_results
  have h := (((W10_of m ρ c main_v14 (by decide)).trans (W9_of m ρ c main_v14 (by decide))).trans (at14 m ρ c))
  exact congrArg (fun x => shapeCast S16384x1024 (x) shapeCasts_S4x4096x1024_S16384x1024) h
theorem at21 : (W11 m ρ c (Proc.devRef .tc main_v21) : FVec Ideal S2048x4096 .bf16) = r21 m c := by
  show (StableHlo.after hostOps7 (W10 m ρ c) (Proc.devRef .tc main_v21) : FVec Ideal S2048x4096 .bf16) = _
  after_results
  have h := W10_args m ρ c main_arg8 (by decide)
  exact congrArg (fun x : FVec Ideal S2048x4096 .f32 => (truncf (F := Ideal) .bf16 (x) bitsLt_bf16_f32 : FVec Ideal S2048x4096 .bf16)) h
theorem at22 : (W11 m ρ c (Proc.devRef .tc main_v22) : FVec Ideal S1024x4096 .bf16) = r22 m c := by
  show (StableHlo.after hostOps7 (W10 m ρ c) (Proc.devRef .tc main_v22) : FVec Ideal S1024x4096 .bf16) = _
  after_results
  have h := W10_args m ρ c main_arg9 (by decide)
  exact congrArg (fun x : FVec Ideal S1024x4096 .f32 => (truncf (F := Ideal) .bf16 (x) bitsLt_bf16_f32 : FVec Ideal S1024x4096 .bf16)) h
theorem at23 : (W11 m ρ c (Proc.devRef .tc main_v23) : FVec Ideal S1024x4096 .bf16) = r23 m c := by
  show (StableHlo.after hostOps7 (W10 m ρ c) (Proc.devRef .tc main_v23) : FVec Ideal S1024x4096 .bf16) = _
  after_results
  have h := W10_args m ρ c main_arg14 (by decide)
  exact congrArg (fun x : FVec Ideal S1024x4096 .f32 => (truncf (F := Ideal) .bf16 (x) bitsLt_bf16_f32 : FVec Ideal S1024x4096 .bf16)) h
theorem at24 : (W12 m ρ c (Proc.devRef .tc main_v24) : FVec Ideal S16384x4096 .bf16) = r24 m c := by
  refine (W12_arr m ρ c 10).trans ((final7 (V11 m ρ) c).trans ?_)
  have h0 : V11 m ρ c main_v4 = r4 m c := ((((((((((W11_of m ρ c main_v4 (by decide)).trans (W10_of m ρ c main_v4 (by decide))).trans (W9_of m ρ c main_v4 (by decide))).trans (W8_of m ρ c main_v4 (by decide))).trans (W7_of m ρ c main_v4 (by decide))).trans (W6_of m ρ c main_v4 (by decide))).trans (W5_of m ρ c main_v4 (by decide))).trans (W4_of m ρ c main_v4 (by decide))).trans (W3_of m ρ c main_v4 (by decide))).trans (at4 m ρ c))
  have h1 : V11 m ρ c main_v19 = r19 m c := (at19 m ρ c)
  have h2 : V11 m ρ c main_v20 = r20 m c := (at20 m ρ c)
  have h3 : V11 m ρ c main_v18 = r18 m c := ((W11_of m ρ c main_v18 (by decide)).trans (at18 m ρ c))
  have h4 : V11 m ρ c main_v2 = r2 m c := (((((((((((W11_of m ρ c main_v2 (by decide)).trans (W10_of m ρ c main_v2 (by decide))).trans (W9_of m ρ c main_v2 (by decide))).trans (W8_of m ρ c main_v2 (by decide))).trans (W7_of m ρ c main_v2 (by decide))).trans (W6_of m ρ c main_v2 (by decide))).trans (W5_of m ρ c main_v2 (by decide))).trans (W4_of m ρ c main_v2 (by decide))).trans (W3_of m ρ c main_v2 (by decide))).trans (W2_of m ρ c main_v2 (by decide))).trans (at2 m ρ c))
  have h5 : V11 m ρ c main_v21 = r21 m c := (at21 m ρ c)
  have h6 : V11 m ρ c main_v22 = r22 m c := (at22 m ρ c)
  have h7 : V11 m ρ c main_v23 = r23 m c := (at23 m ρ c)
  rw [h0, h1, h2, h3, h4, h5, h6, h7]
  rfl
theorem at25 : (W13 m ρ c (Proc.devRef .tc main_v25) : FVec Ideal S4096x4096 .bf16) = r25 m c := by
  show (StableHlo.after hostOps8 (W12 m ρ c) (Proc.devRef .tc main_v25) : FVec Ideal S4096x4096 .bf16) = _
  after_results
  have h := W12_args m ρ c main_arg15 (by decide)
  exact congrArg (fun x : FVec Ideal S4096x4096 .f32 => (truncf (F := Ideal) .bf16 (x) bitsLt_bf16_f32 : FVec Ideal S4096x4096 .bf16)) h
theorem at26 : (W14 m ρ c (Proc.devRef .tc main_v26) : FVec Ideal S16384x4096 .f32) = r26 m c := by
  refine (W14_arr m ρ c 3).trans ((final8 (V13 m ρ) c).trans ?_)
  have h0 : V13 m ρ c main_v24 = r24 m c := ((W13_of m ρ c main_v24 (by decide)).trans (at24 m ρ c))
  have h1 : V13 m ρ c main_v25 = r25 m c := (at25 m ρ c)
  have h2 : V13 m ρ c main_v0 = r0 m c := (((((((((((((W13_of m ρ c main_v0 (by decide)).trans (W12_of m ρ c main_v0 (by decide))).trans (W11_of m ρ c main_v0 (by decide))).trans (W10_of m ρ c main_v0 (by decide))).trans (W9_of m ρ c main_v0 (by decide))).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))).trans (at0 m ρ c))
  rw [h0, h1, h2]
  rfl
theorem at27 : (W15 m ρ c (Proc.devRef .tc main_v27) : FVec Ideal S1x4096 .f32) = r27 m c := by
  show (StableHlo.after hostOps9 (W14 m ρ c) (Proc.devRef .tc main_v27) : FVec Ideal S1x4096 .f32) = _
  after_results
  have h := W14_args m ρ c main_arg16 (by decide)
  exact congrArg (fun x : FVec Ideal S4096 .f32 => (shapeCast S1x4096 (x) shapeCasts_S4096_S1x4096 : FVec Ideal S1x4096 .f32)) h
theorem at28 : (W16 m ρ c (Proc.devRef .tc main_v28) : FVec Ideal S16384x4096 .f32) = r28 m c := by
  refine (W16_arr m ρ c 2).trans ((final9 (V15 m ρ) c).trans ?_)
  have h0 : V15 m ρ c main_v26 = r26 m c := ((W15_of m ρ c main_v26 (by decide)).trans (at26 m ρ c))
  have h1 : V15 m ρ c main_v27 = r27 m c := (at27 m ρ c)
  rw [h0, h1]
  rfl

end Cert.KernelIdeal.Part
-- ==== Proof.Part.Run.lean ====
module

public import proofs.«01_k».proof.Proof.Gen.KernelIdeal.Frame
public import proofs.«01_k».proof.Proof.Part.Chain

@[expose] public section

set_option maxRecDepth 16384

/-! The kernel's run: every array ends at the last boundary's contents, the result among them. -/

noncomputable section

namespace Cert.KernelIdeal.Part

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every execution ends with each array at the contents of the last boundary, and every counter at zero. -/
theorem run_all (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- Every execution ends with the chain's last value in the result and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v28) = r28 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h.1 c _ (mem_uc main_v28 (by decide))).trans (at28 m ρ c),
     (h.1 c _ (mem_uc main_arg0 (by decide))).trans (W16_main_arg0 m ρ c),
     (h.1 c _ (mem_uc main_arg1 (by decide))).trans (W16_main_arg1 m ρ c),
     (h.1 c _ (mem_uc main_arg2 (by decide))).trans (W16_main_arg2 m ρ c),
     (h.1 c _ (mem_uc main_arg3 (by decide))).trans (W16_main_arg3 m ρ c),
     (h.1 c _ (mem_uc main_arg4 (by decide))).trans (W16_main_arg4 m ρ c),
     (h.1 c _ (mem_uc main_arg5 (by decide))).trans (W16_main_arg5 m ρ c),
     (h.1 c _ (mem_uc main_arg6 (by decide))).trans (W16_main_arg6 m ρ c),
     (h.1 c _ (mem_uc main_arg7 (by decide))).trans (W16_main_arg7 m ρ c),
     (h.1 c _ (mem_uc main_arg8 (by decide))).trans (W16_main_arg8 m ρ c),
     (h.1 c _ (mem_uc main_arg9 (by decide))).trans (W16_main_arg9 m ρ c),
     (h.1 c _ (mem_uc main_arg10 (by decide))).trans (W16_main_arg10 m ρ c),
     (h.1 c _ (mem_uc main_arg11 (by decide))).trans (W16_main_arg11 m ρ c),
     (h.1 c _ (mem_uc main_arg12 (by decide))).trans (W16_main_arg12 m ρ c),
     (h.1 c _ (mem_uc main_arg13 (by decide))).trans (W16_main_arg13 m ρ c),
     (h.1 c _ (mem_uc main_arg14 (by decide))).trans (W16_main_arg14 m ρ c),
     (h.1 c _ (mem_uc main_arg15 (by decide))).trans (W16_main_arg15 m ρ c),
     (h.1 c _ (mem_uc main_arg16 (by decide))).trans (W16_main_arg16 m ρ c)⟩) (run_all m ρ)

end Cert.KernelIdeal.Part

end
-- ==== Proof.Layer.lean ====
module

public import proofs.«01_k».proof.Proof.Spec

@[expose] public section

/-! The layer, token by token: what the kernel and the reference are both shown to compute. -/

noncomputable section

namespace Cert.Spec

open Idealize.ShloMosaic

/-- The layer's arguments, as functions of their coordinates. -/
structure Args where
  /-- The input. -/
  x : Fin 4 → Fin 4096 → Fin 4096 → EReal
  /-- The gain of the first norm. -/
  g1 : Fin 4096 → EReal
  /-- The gated attention output. -/
  o : Fin 4 → Fin 4096 → Fin 2048 → EReal
  /-- The input projection. -/
  w : Fin 4096 → Fin 25648 → EReal
  /-- The convolution's taps. -/
  cw : Fin 31 → Fin 1024 → EReal
  /-- The convolution's bias. -/
  cb : Fin 1024 → EReal
  /-- The gain of the norm after the convolution. -/
  cg : Fin 1024 → EReal
  /-- The shift of the norm after the convolution. -/
  cs : Fin 1024 → EReal
  /-- The attention branch's output projection. -/
  wa : Fin 2048 → Fin 4096 → EReal
  /-- The convolution branch's output projection. -/
  wb : Fin 1024 → Fin 4096 → EReal
  /-- The gain of the spatial unit's norm. -/
  sg : Fin 1024 → EReal
  /-- The shift of the spatial unit's norm. -/
  ss : Fin 1024 → EReal
  /-- The spatial unit's weights, per group of channels. -/
  sw : Fin 8 → Fin 128 → Fin 128 → EReal
  /-- The spatial unit's bias, per group of channels. -/
  sb : Fin 8 → Fin 128 → EReal
  /-- The spatial branch's output projection. -/
  wc : Fin 1024 → Fin 4096 → EReal
  /-- The projection of the merged branches. -/
  wo : Fin 4096 → Fin 4096 → EReal
  /-- The gain of the last norm. -/
  g2 : Fin 4096 → EReal

variable (A : Args) (b : Fin 4) (s : Fin 4096)

/-- The normed input. -/
def h (d : Fin 4096) : EReal := rms (A.x b s) A.g1 d

/-- One column of the input projection. -/
def p (j : Fin 25648) : EReal := dot (h A b s) (fun k => A.w k j)

/-- The convolution branch's gated channels. -/
def y (q : Fin 1024) : EReal := p A b s ⟨7216 + q.val, by omega⟩ * sigm (p A b s ⟨8240 + q.val, by omega⟩)

/-- The gated channels `30 - k` tokens back, zero before the sequence. -/
def yback (q : Fin 1024) (k : ℕ) : EReal :=
  if h : 30 ≤ s.val + k ∧ s.val + k < 4126 then y A b ⟨s.val + k - 30, by omega⟩ q else 0

/-- The convolution. -/
def conv (q : Fin 1024) : EReal := taps (yback A b s q) (fun k => A.cw k q) + A.cb q

/-- The convolution branch. -/
def ob (q : Fin 1024) : EReal := silu (ln (conv A b s) A.cg A.cs q) * silu (p A b s ⟨9264 + q.val, by omega⟩)

/-- The channels the spatial unit mixes, normed. -/
def v (q : Fin 1024) : EReal := ln (fun e => p A b s ⟨11312 + e.val, by omega⟩) A.sg A.ss q

/-- The spatial unit: a token's channels from its own and the earlier tokens of its block of 128. -/
def mix (q : Fin 1024) : EReal :=
  dot (fun k : Fin 128 => if k.val ≤ s.val % 128 then A.sw ⟨q.val / 128, by omega⟩ ⟨s.val % 128, by omega⟩ k else 0)
    (fun k : Fin 128 => v A b ⟨s.val / 128 * 128 + k.val, by omega⟩ q) + A.sb ⟨q.val / 128, by omega⟩ ⟨s.val % 128, by omega⟩

/-- The spatial branch. -/
def oc (q : Fin 1024) : EReal := p A b s ⟨10288 + q.val, by omega⟩ * mix A b s q * silu (p A b s ⟨12336 + q.val, by omega⟩)

/-- The three branches, projected and merged under their gates. -/
def merged (j : Fin 4096) : EReal :=
  sigm (p A b s ⟨13360 + j.val, by omega⟩) * dot (A.o b s) (fun k => A.wa k j)
    + sigm (p A b s ⟨17456 + j.val, by omega⟩) * dot (ob A b s) (fun k => A.wb k j)
    + sigm (p A b s ⟨21552 + j.val, by omega⟩) * dot (oc A b s) (fun k => A.wc k j)

/-- The residual stream after the layer. -/
def resid (j : Fin 4096) : EReal := A.x b s j + dot (merged A b s) (fun k => A.wo k j)

/-- The layer's result. -/
def result (j : Fin 4096) : EReal := rms (resid A b s) A.g2 j

end Cert.Spec

end
-- ==== Proof.Part.Value.lean ====
module

public import proofs.«01_k».proof.Proof.Part.Chain
public import proofs.«01_k».proof.Proof.Layer

@[expose] public section

set_option maxRecDepth 16384

/-! The chain's values, token by token: the kernel's rows are the layer's tokens, sequence after sequence. -/

noncomputable section

namespace Cert.KernelIdeal.Part

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments by their coordinates. -/
def args : Cert.Spec.Args where
  x b s k := a0 m c (ix3 b s k)
  g1 k := a1 m c (ix1 k)
  o b s k := a2 m c (ix3 b s k)
  w k j := a3 m c (ix2 k j)
  cw k q := a4 m c (ix2 k q)
  cb q := a5 m c (ix1 q)
  cg q := a6 m c (ix1 q)
  cs q := a7 m c (ix1 q)
  wa k j := a8 m c (ix2 k j)
  wb k j := a9 m c (ix2 k j)
  sg q := a10 m c (ix1 q)
  ss q := a11 m c (ix1 q)
  sw g t k := a12 m c (ix3 g t k)
  sb g t := a13 m c (ix2 g t)
  wc k j := a14 m c (ix2 k j)
  wo k j := a15 m c (ix2 k j)
  g2 j := a16 m c (ix1 j)

/-- A row's sequence. -/
abbrev bo (R : Fin 16384) : Fin 4 := ⟨R.val / 4096, by omega⟩
/-- A row's place in its sequence. -/
abbrev so (R : Fin 16384) : Fin 4096 := ⟨R.val % 4096, by omega⟩
/-- The row of a token. -/
abbrev ro (b : Fin 4) (s : Fin 4096) : Fin 16384 := ⟨b.val * 4096 + s.val, by omega⟩

theorem bo_ro (b : Fin 4) (s : Fin 4096) : bo (ro b s) = b := by ext; simp only [bo, ro]; omega
theorem so_ro (b : Fin 4) (s : Fin 4096) : so (ro b s) = s := by ext; simp only [so, ro]; omega

theorem r0_at (R : Fin 16384) (k : Fin 4096) : r0 m c (ix2 R k) = (args m c).x (bo R) (so R) k := by
  pointwise [r0, args]

theorem r2_at (j : Fin 25648) (k : Fin 4096) : r2 m c (ix2 j k) = (args m c).w k j := by
  pointwise [r2, args]

theorem r3_at (k : Fin 4096) : r3 m c (ix2 0 k) = (args m c).g1 k := by
  pointwise [r3, args]

theorem r9_at (b : Fin 4) (s : Fin 4096) (q : Fin 1024) : r9 m c (ix3 b s q) = r8 m c (ix2 (ro b s) q) := by
  pointwise [r9]

theorem r4_at (R : Fin 16384) (d : Fin 4096) : r4 m c (ix2 R d) = Cert.Spec.h (args m c) (bo R) (so R) d := by
  show Cert.Spec.rms (fun k => r0 m c (ix2 R k)) (fun k => r3 m c (ix2 0 k)) d = _
  rw [Cert.Spec.h, funext (r0_at m c R), funext (r3_at m c)]

/-- A column of the projection of a row. -/
theorem p_at (R : Fin 16384) (j : Fin 25648) :
    Cert.Spec.dot (fun k : Fin 4096 => r4 m c (ix2 R k)) (fun k => r2 m c (ix2 j k)) = Cert.Spec.p (args m c) (bo R) (so R) j :=
  Cert.Spec.dot_congr (r4_at m c R) (r2_at m c j)

theorem r5_at (R : Fin 16384) (j : Fin 3072) : r5 m c (ix2 R j) = Cert.Spec.p (args m c) (bo R) (so R) (col1 j) := p_at m c R _
theorem r6_at (R : Fin 16384) (j : Fin 2048) : r6 m c (ix2 R j) = Cert.Spec.p (args m c) (bo R) (so R) (col2 j) := p_at m c R _
theorem r7_at (R : Fin 16384) (j : Fin 4096) : r7 m c (ix2 R j) = Cert.Spec.silu (Cert.Spec.p (args m c) (bo R) (so R) (col3 j)) :=
  congrArg Cert.Spec.silu (p_at m c R _)
theorem r8_at (R : Fin 16384) (q : Fin 1024) : r8 m c (ix2 R q) = Cert.Spec.y (args m c) (bo R) (so R) q :=
  congrArg₂ (fun a b : EReal => a * Cert.Spec.sigm b) (p_at m c R _) (p_at m c R _)

theorem y_at (b : Fin 4) (s : Fin 4096) (q : Fin 1024) : r9 m c (ix3 b s q) = Cert.Spec.y (args m c) b s q := by
  rw [r9_at, r8_at, bo_ro, so_ro]

theorem r10_at (b : Fin 4) (s : Fin 4096) (q : Fin 4096) : r10 m c (ix3 b s q) = Cert.Spec.silu (Cert.Spec.p (args m c) b s (col3 q)) := by
  have h : r10 m c (ix3 b s q) = r7 m c (ix2 (ro b s) q) := by pointwise [r10]
  rw [h, r7_at, bo_ro, so_ro]

theorem r11_at (q : Fin 1024) : r11 m c (ix2 0 q) = (args m c).cb q := by pointwise [r11, args]
theorem r12_at (q : Fin 1024) : r12 m c (ix2 0 q) = (args m c).cg q := by pointwise [r12, args]
theorem r13_at (q : Fin 1024) : r13 m c (ix2 0 q) = (args m c).cs q := by pointwise [r13, args]
theorem r15_at (q : Fin 1024) : r15 m c (ix2 0 q) = (args m c).sg q := by pointwise [r15, args]
theorem r16_at (q : Fin 1024) : r16 m c (ix2 0 q) = (args m c).ss q := by pointwise [r16, args]
theorem r17_at (t : Fin 128) (g : Fin 8) : r17 m c (ix2 t g) = (args m c).sb g t := by pointwise [r17, args]

theorem back_at (b : Fin 4) (s : Fin 4096) (q : Fin 1024) (k : ℕ) :
    back (r9 m c) b s k q = Cert.Spec.yback (args m c) b s q k := by
  unfold back Cert.Spec.yback
  split
  · exact y_at m c _ _ _
  · rfl

theorem conv_at (b : Fin 4) (s : Fin 4096) (q : Fin 1024) :
    Cert.Spec.taps (fun k => back (r9 m c) b s k q) (fun k => a4 m c (ix2 k q)) + r11 m c (ix2 0 q) = Cert.Spec.conv (args m c) b s q := by
  rw [r11_at, funext (back_at m c b s q)]
  rfl

theorem r14_at (b : Fin 4) (s : Fin 4096) (q : Fin 1024) : r14 m c (ix3 b s q) = Cert.Spec.ob (args m c) b s q := by
  show Cert.Spec.silu (Cert.Spec.ln (fun q => Cert.Spec.taps (fun k => back (r9 m c) b s k q) (fun k => a4 m c (ix2 k q)) + r11 m c (ix2 0 q))
    (fun q => r12 m c (ix2 0 q)) (fun q => r13 m c (ix2 0 q)) q) * r10 m c (ix3 b s ⟨2048 + q.val, _⟩) = _
  rw [funext (conv_at m c b s), funext (r12_at m c), funext (r13_at m c), r10_at, Cert.Spec.ob]
  congr 3
  ext
  simp only [col3]
  split
  · omega
  · split <;> omega

theorem v_at (R : Fin 16384) (k : Fin 128) (q : Fin 1024) (hk : R.val / 128 * 128 + k.val < 16384)
    (hs : R.val % 4096 / 128 * 128 + k.val < 4096) :
    Cert.Spec.ln (fun e : Fin 1024 => r6 m c (ix2 ⟨R.val / 128 * 128 + k.val, hk⟩ ⟨1024 + e.val, by omega⟩)) (fun e => r15 m c (ix2 0 e))
      (fun e => r16 m c (ix2 0 e)) q = Cert.Spec.v (args m c) (bo R) ⟨R.val % 4096 / 128 * 128 + k.val, hs⟩ q := by
  have e1 : bo ⟨R.val / 128 * 128 + k.val, hk⟩ = bo R := by ext; simp only [bo]; omega
  have e2 : so ⟨R.val / 128 * 128 + k.val, hk⟩ = ⟨R.val % 4096 / 128 * 128 + k.val, hs⟩ := by ext; simp only [so]; omega
  have e3 : ∀ e : Fin 1024, r6 m c (ix2 ⟨R.val / 128 * 128 + k.val, hk⟩ ⟨1024 + e.val, by omega⟩)
      = Cert.Spec.p (args m c) (bo R) ⟨R.val % 4096 / 128 * 128 + k.val, hs⟩ ⟨11312 + e.val, by omega⟩ := fun e => by
    rw [r6_at, e1, e2]
    congr 1
    ext
    simp only [col2]
    split <;> omega
  rw [funext e3, funext (r15_at m c), funext (r16_at m c), Cert.Spec.v]

theorem r18_at (R : Fin 16384) (q : Fin 1024) : r18 m c (ix2 R q) = Cert.Spec.oc (args m c) (bo R) (so R) q := by
  have hR := R.isLt
  have e0 : R.val % 128 = R.val % 4096 % 128 := by omega
  have u : r5 m c (ix2 R ⟨2048 + q.val, by omega⟩) = Cert.Spec.p (args m c) (bo R) (so R) ⟨10288 + q.val, by omega⟩ := by
    rw [r5_at]
    congr 1
    ext
    simp only [col1]
    split <;> omega
  have z : r7 m c (ix2 R ⟨3072 + q.val, by omega⟩) = Cert.Spec.silu (Cert.Spec.p (args m c) (bo R) (so R) ⟨12336 + q.val, by omega⟩) := by
    rw [r7_at]
    congr 2
    ext
    simp only [col3]
    split
    · omega
    · split <;> omega
  have d : Cert.Spec.dot (fun k : Fin 128 => if k.val ≤ R.val % 128 then a12 m c (ix3 ⟨q.val / 128, by omega⟩ ⟨R.val % 128, by omega⟩ k) else 0)
        (fun k : Fin 128 => Cert.Spec.ln (fun e : Fin 1024 => r6 m c (ix2 ⟨R.val / 128 * 128 + k.val, by omega⟩ ⟨1024 + e.val, by omega⟩))
          (fun e => r15 m c (ix2 0 e)) (fun e => r16 m c (ix2 0 e)) q)
      + r17 m c (ix2 ⟨R.val % 128, by omega⟩ ⟨q.val / 128, by omega⟩) = Cert.Spec.mix (args m c) (bo R) (so R) q := by
    unfold Cert.Spec.mix
    refine congrArg₂ (fun a b : EReal => a + b) (Cert.Spec.dot_congr (fun k => ?_) fun k => ?_) ?_
    · simp only [e0, so]
      rfl
    · exact v_at m c R k q _ _
    · rw [r17_at]
      congr 1
      exact Fin.ext e0
  exact congrArg₂ (fun a b : EReal => a * b) (congrArg₂ (fun a b : EReal => a * b) u d) z

theorem r19_at (R : Fin 16384) (k : Fin 2048) : r19 m c (ix2 R k) = (args m c).o (bo R) (so R) k := by pointwise [r19, args]
theorem r20_at (R : Fin 16384) (q : Fin 1024) : r20 m c (ix2 R q) = Cert.Spec.ob (args m c) (bo R) (so R) q := by
  have h : r20 m c (ix2 R q) = r14 m c (ix3 (bo R) (so R) q) := by pointwise [r20]
  rw [h, r14_at]
theorem r21_at (k : Fin 2048) (j : Fin 4096) : r21 m c (ix2 k j) = (args m c).wa k j := by pointwise [r21, args]
theorem r22_at (k : Fin 1024) (j : Fin 4096) : r22 m c (ix2 k j) = (args m c).wb k j := by pointwise [r22, args]
theorem r23_at (k : Fin 1024) (j : Fin 4096) : r23 m c (ix2 k j) = (args m c).wc k j := by pointwise [r23, args]
theorem r25_at (k j : Fin 4096) : r25 m c (ix2 k j) = (args m c).wo k j := by pointwise [r25, args]
theorem r27_at (k : Fin 4096) : r27 m c (ix2 0 k) = (args m c).g2 k := by pointwise [r27, args]

theorem r24_at (R : Fin 16384) (j : Fin 4096) : r24 m c (ix2 R j) = Cert.Spec.merged (args m c) (bo R) (so R) j :=
  congrArg₂ (fun a b : EReal => a + b)
    (congrArg₂ (fun a b : EReal => a + b)
      (congrArg₂ (fun a b : EReal => Cert.Spec.sigm a * b) (p_at m c R _) (Cert.Spec.dot_congr (r19_at m c R) fun k => r21_at m c k j))
      (congrArg₂ (fun a b : EReal => Cert.Spec.sigm a * b) (p_at m c R _) (Cert.Spec.dot_congr (r20_at m c R) fun k => r22_at m c k j)))
    (congrArg₂ (fun a b : EReal => Cert.Spec.sigm a * b) (p_at m c R _) (Cert.Spec.dot_congr (r18_at m c R) fun k => r23_at m c k j))

theorem r26_at (R : Fin 16384) (j : Fin 4096) : r26 m c (ix2 R j) = Cert.Spec.resid (args m c) (bo R) (so R) j :=
  congrArg₂ (fun a b : EReal => a + b) (r0_at m c R j) (Cert.Spec.dot_congr (r24_at m c R) fun k => r25_at m c k j)

/-- The kernel's result at a row is the layer's at its token. -/
theorem r28_at (R : Fin 16384) (j : Fin 4096) : r28 m c (ix2 R j) = Cert.Spec.result (args m c) (bo R) (so R) j := by
  show Cert.Spec.rms (fun k => r26 m c (ix2 R k)) (fun k => r27 m c (ix2 0 k)) j = _
  rw [Cert.Spec.result, funext (r26_at m c R), funext (r27_at m c)]

end Cert.KernelIdeal.Part

end
-- ==== Proof.Ref.Base.lean ====
module

public import proofs.«01_k».proof.Proof.Gen.ReferenceIdeal.Run
public import proofs.«01_k».proof.Proof.Layer
public import Idealize.ShloMosaic.Lib.Pointwise

@[expose] public section

set_option maxRecDepth 16384

/-! The reference's projections, token by token. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- Argument 0. -/
abbrev a0 : FVec Ideal S4x4096x4096 .f32 := V0 (Proc.devRef .tc main_arg0)
/-- Argument 1. -/
abbrev a1 : FVec Ideal S4096 .f32 := V0 (Proc.devRef .tc main_arg1)
/-- Argument 2. -/
abbrev a2 : FVec Ideal S4x4096x2048 .bf16 := V0 (Proc.devRef .tc main_arg2)
/-- Argument 3. -/
abbrev a3 : FVec Ideal S4096x25648 .f32 := V0 (Proc.devRef .tc main_arg3)
/-- Argument 4. -/
abbrev a4 : FVec Ideal S31x1024 .f32 := V0 (Proc.devRef .tc main_arg4)
/-- Argument 5. -/
abbrev a5 : FVec Ideal S1024 .f32 := V0 (Proc.devRef .tc main_arg5)
/-- Argument 6. -/
abbrev a6 : FVec Ideal S1024 .f32 := V0 (Proc.devRef .tc main_arg6)
/-- Argument 7. -/
abbrev a7 : FVec Ideal S1024 .f32 := V0 (Proc.devRef .tc main_arg7)
/-- Argument 8. -/
abbrev a8 : FVec Ideal S2048x4096 .f32 := V0 (Proc.devRef .tc main_arg8)
/-- Argument 9. -/
abbrev a9 : FVec Ideal S1024x4096 .f32 := V0 (Proc.devRef .tc main_arg9)
/-- Argument 10. -/
abbrev a10 : FVec Ideal S1024 .f32 := V0 (Proc.devRef .tc main_arg10)
/-- Argument 11. -/
abbrev a11 : FVec Ideal S1024 .f32 := V0 (Proc.devRef .tc main_arg11)
/-- Argument 12. -/
abbrev a12 : FVec Ideal S8x128x128 .f32 := V0 (Proc.devRef .tc main_arg12)
/-- Argument 13. -/
abbrev a13 : FVec Ideal S8x128 .f32 := V0 (Proc.devRef .tc main_arg13)
/-- Argument 14. -/
abbrev a14 : FVec Ideal S1024x4096 .f32 := V0 (Proc.devRef .tc main_arg14)
/-- Argument 15. -/
abbrev a15 : FVec Ideal S4096x4096 .f32 := V0 (Proc.devRef .tc main_arg15)
/-- Argument 16. -/
abbrev a16 : FVec Ideal S4096 .f32 := V0 (Proc.devRef .tc main_arg16)

/-- The arguments by their coordinates. -/
def args : Cert.Spec.Args where
  x b s k := a0 V0 (ix3 b s k)
  g1 k := a1 V0 (ix1 k)
  o b s k := a2 V0 (ix3 b s k)
  w k j := a3 V0 (ix2 k j)
  cw k q := a4 V0 (ix2 k q)
  cb q := a5 V0 (ix1 q)
  cg q := a6 V0 (ix1 q)
  cs q := a7 V0 (ix1 q)
  wa k j := a8 V0 (ix2 k j)
  wb k j := a9 V0 (ix2 k j)
  sg q := a10 V0 (ix1 q)
  ss q := a11 V0 (ix1 q)
  sw g t k := a12 V0 (ix3 g t k)
  sb g t := a13 V0 (ix2 g t)
  wc k j := a14 V0 (ix2 k j)
  wo k j := a15 V0 (ix2 k j)
  g2 j := a16 V0 (ix1 j)

/-- The normed input. -/
abbrev v12 : FVec Ideal S4x4096x4096 .f32 := res_main_v12 V0

theorem v12_at (b : Fin 4) (s d : Fin 4096) : v12 V0 (ix3 b s d) = Cert.Spec.h (args V0) b s d := by
  pointwise [v12, res_main_v12, Cert.Spec.h, Cert.Spec.rms, args]

/-- The convolution branch's two halves. -/
abbrev v14 : FVec Ideal S4x4096x2048 .f32 := res_main_v14 V0
/-- The convolution branch's outer gate. -/
abbrev v16 : FVec Ideal S4x4096x1024 .f32 := res_main_v16 V0
/-- The spatial branch's two halves. -/
abbrev v18 : FVec Ideal S4x4096x2048 .f32 := res_main_v18 V0
/-- The spatial branch's outer gate. -/
abbrev v20 : FVec Ideal S4x4096x1024 .f32 := res_main_v20 V0

/-- A column of the projection of a token. -/
theorem p_of (b : Fin 4) (s : Fin 4096) (j : Fin 25648) (f : Fin 4096 → EReal) (hf : ∀ k, f k = a3 V0 (ix2 k j)) :
    Cert.Spec.dot (fun k => v12 V0 (ix3 b s k)) f = Cert.Spec.p (args V0) b s j :=
  Cert.Spec.dot_congr (v12_at V0 b s) hf

theorem v14_at (b : Fin 4) (s : Fin 4096) (j : Fin 2048) :
    v14 V0 (ix3 b s j) = Cert.Spec.p (args V0) b s ⟨7216 + j.val, by omega⟩ := by
  rw [← p_of V0 b s _ _ fun _ => rfl]
  pointwise [v14, res_main_v14, Cert.Spec.dot]

theorem v16_at (b : Fin 4) (s : Fin 4096) (j : Fin 1024) :
    v16 V0 (ix3 b s j) = Cert.Spec.p (args V0) b s ⟨9264 + j.val, by omega⟩ := by
  rw [← p_of V0 b s _ _ fun _ => rfl]
  pointwise [v16, res_main_v16, Cert.Spec.dot]

theorem v18_at (b : Fin 4) (s : Fin 4096) (j : Fin 2048) :
    v18 V0 (ix3 b s j) = Cert.Spec.p (args V0) b s ⟨10288 + j.val, by omega⟩ := by
  rw [← p_of V0 b s _ _ fun _ => rfl]
  pointwise [v18, res_main_v18, Cert.Spec.dot]

theorem v20_at (b : Fin 4) (s : Fin 4096) (j : Fin 1024) :
    v20 V0 (ix3 b s j) = Cert.Spec.p (args V0) b s ⟨12336 + j.val, by omega⟩ := by
  rw [← p_of V0 b s _ _ fun _ => rfl]
  pointwise [v20, res_main_v20, Cert.Spec.dot]

end Cert.ReferenceIdeal.Ref

end
-- ==== Proof.Ref.Pad.lean ====
module

public import proofs.«01_k».proof.Proof.Ref.Base

@[expose] public section

set_option maxRecDepth 16384

/-! The rows the reference convolves. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The word zero, as an extended real. -/
theorem zero_f32 : (FloatOps.sitofp (F := Ideal) .f32 (0#32) : EReal) = 0 := by
  show ((((0#32 : BitVec 32).toInt : ℝ)) : EReal) = 0
  simp

/-- The gated channels, with 30 rows of zeros before each sequence. -/
abbrev v34 : FVec Ideal S4x4126x1024 .f32 := res_main_v34 V0

theorem v34_at (b : Fin 4) (s : Fin 4096) (q : Fin 1024) (k : ℕ) (hk : k + s.val < 4126) :
    v34 V0 (ix3 b ⟨k + s.val, hk⟩ q) = Cert.Spec.yback (args V0) b s q k := by
  unfold Cert.Spec.yback
  by_cases h : 30 ≤ s.val + k
  · rw [dif_pos ⟨h, by omega⟩, Cert.Spec.y, Cert.Spec.sigm]
    have hu := v14_at V0 b ⟨s.val + k - 30, by omega⟩ ⟨q.val, by omega⟩
    have hg := v14_at V0 b ⟨s.val + k - 30, by omega⟩ ⟨1024 + q.val, by omega⟩
    pointwise [v34, res_main_v34]
    rw [dif_pos ⟨by omega, by omega⟩]
    have e : ∀ (j : Fin 2048), res_main_v14 V0 (ix3 b ⟨k + s.val - 30, by omega⟩ j) = v14 V0 (ix3 b ⟨s.val + k - 30, by omega⟩ j) := fun j => by
      congr 2
      ext
      simp only
      omega
    rw [e ⟨q.val, by omega⟩, e ⟨1024 + q.val, by omega⟩, hu, hg]
    simp only [← Nat.add_assoc, Nat.reduceAdd]
  · rw [dif_neg fun h' => h h'.1]
    pointwise [v34, res_main_v34]
    rw [dif_neg fun h' => h (by omega)]
    exact zero_f32

end Cert.ReferenceIdeal.Ref

end
-- ==== Proof.Ref.Conv.lean ====
module

public import proofs.«01_k».proof.Proof.Ref.Pad

@[expose] public section

set_option maxRecDepth 16384

/-! The reference's convolution. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The convolution's sum after 11 taps. -/
abbrev v112 : FVec Ideal S4x4096x1024 .f32 := res_main_v112 V0

theorem v112_at (b : Fin 4) (s : Fin 4096) (q : Fin 1024) : v112 V0 (ix3 b s q) = 0
      + Cert.Spec.yback (args V0) b s q 0 * (args V0).cw 0 q
      + Cert.Spec.yback (args V0) b s q 1 * (args V0).cw 1 q
      + Cert.Spec.yback (args V0) b s q 2 * (args V0).cw 2 q
      + Cert.Spec.yback (args V0) b s q 3 * (args V0).cw 3 q
      + Cert.Spec.yback (args V0) b s q 4 * (args V0).cw 4 q
      + Cert.Spec.yback (args V0) b s q 5 * (args V0).cw 5 q
      + Cert.Spec.yback (args V0) b s q 6 * (args V0).cw 6 q
      + Cert.Spec.yback (args V0) b s q 7 * (args V0).cw 7 q
      + Cert.Spec.yback (args V0) b s q 8 * (args V0).cw 8 q
      + Cert.Spec.yback (args V0) b s q 9 * (args V0).cw 9 q
      + Cert.Spec.yback (args V0) b s q 10 * (args V0).cw 10 q := by
  rw [← v34_at V0 b s q 0 (by omega), ← v34_at V0 b s q 1 (by omega), ← v34_at V0 b s q 2 (by omega), ← v34_at V0 b s q 3 (by omega), ← v34_at V0 b s q 4 (by omega), ← v34_at V0 b s q 5 (by omega), ← v34_at V0 b s q 6 (by omega), ← v34_at V0 b s q 7 (by omega), ← v34_at V0 b s q 8 (by omega), ← v34_at V0 b s q 9 (by omega), ← v34_at V0 b s q 10 (by omega)]
  pointwise [v112, res_main_v112, args]

/-- The convolution's sum after 22 taps. -/
abbrev v189 : FVec Ideal S4x4096x1024 .f32 := res_main_v189 V0

theorem v189_at (b : Fin 4) (s : Fin 4096) (q : Fin 1024) : v189 V0 (ix3 b s q) = v112 V0 (ix3 b s q)
      + Cert.Spec.yback (args V0) b s q 11 * (args V0).cw 11 q
      + Cert.Spec.yback (args V0) b s q 12 * (args V0).cw 12 q
      + Cert.Spec.yback (args V0) b s q 13 * (args V0).cw 13 q
      + Cert.Spec.yback (args V0) b s q 14 * (args V0).cw 14 q
      + Cert.Spec.yback (args V0) b s q 15 * (args V0).cw 15 q
      + Cert.Spec.yback (args V0) b s q 16 * (args V0).cw 16 q
      + Cert.Spec.yback (args V0) b s q 17 * (args V0).cw 17 q
      + Cert.Spec.yback (args V0) b s q 18 * (args V0).cw 18 q
      + Cert.Spec.yback (args V0) b s q 19 * (args V0).cw 19 q
      + Cert.Spec.yback (args V0) b s q 20 * (args V0).cw 20 q
      + Cert.Spec.yback (args V0) b s q 21 * (args V0).cw 21 q := by
  rw [← v34_at V0 b s q 11 (by omega), ← v34_at V0 b s q 12 (by omega), ← v34_at V0 b s q 13 (by omega), ← v34_at V0 b s q 14 (by omega), ← v34_at V0 b s q 15 (by omega), ← v34_at V0 b s q 16 (by omega), ← v34_at V0 b s q 17 (by omega), ← v34_at V0 b s q 18 (by omega), ← v34_at V0 b s q 19 (by omega), ← v34_at V0 b s q 20 (by omega), ← v34_at V0 b s q 21 (by omega)]
  pointwise [v189, res_main_v189, args]

/-- The convolution. -/
abbrev v255 : FVec Ideal S4x4096x1024 .f32 := res_main_v255 V0

theorem v255_at (b : Fin 4) (s : Fin 4096) (q : Fin 1024) : v255 V0 (ix3 b s q) = Cert.Spec.conv (args V0) b s q := by
  have h : v255 V0 (ix3 b s q) = v189 V0 (ix3 b s q)
      + Cert.Spec.yback (args V0) b s q 22 * (args V0).cw 22 q
      + Cert.Spec.yback (args V0) b s q 23 * (args V0).cw 23 q
      + Cert.Spec.yback (args V0) b s q 24 * (args V0).cw 24 q
      + Cert.Spec.yback (args V0) b s q 25 * (args V0).cw 25 q
      + Cert.Spec.yback (args V0) b s q 26 * (args V0).cw 26 q
      + Cert.Spec.yback (args V0) b s q 27 * (args V0).cw 27 q
      + Cert.Spec.yback (args V0) b s q 28 * (args V0).cw 28 q
      + Cert.Spec.yback (args V0) b s q 29 * (args V0).cw 29 q
      + Cert.Spec.yback (args V0) b s q 30 * (args V0).cw 30 q
      + (args V0).cb q := by
    rw [← v34_at V0 b s q 22 (by omega), ← v34_at V0 b s q 23 (by omega), ← v34_at V0 b s q 24 (by omega), ← v34_at V0 b s q 25 (by omega), ← v34_at V0 b s q 26 (by omega), ← v34_at V0 b s q 27 (by omega), ← v34_at V0 b s q 28 (by omega), ← v34_at V0 b s q 29 (by omega), ← v34_at V0 b s q 30 (by omega)]
    pointwise [v255, res_main_v255, args]
  rw [h, v189_at, v112_at]
  rfl

end Cert.ReferenceIdeal.Ref

end
-- ==== Proof.Ref.ConvNorm.lean ====
module

public import proofs.«01_k».proof.Proof.Ref.Conv

@[expose] public section

set_option maxRecDepth 16384

/-! The norm after the reference's convolution. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The mean of a token's convolved channels. -/
abbrev v259 : FVec Ideal S4x4096x1 .f32 := res_main_v259 V0
/-- The centred channels. -/
abbrev v261 : FVec Ideal S4x4096x1024 .f32 := res_main_v261 V0
/-- The normed channels. -/
abbrev v279 : FVec Ideal S4x4096x1024 .f32 := res_main_v279 V0

theorem v259_at (b : Fin 4) (s : Fin 4096) :
    v259 V0 (ix3 b s 0) = Ideal.div (∑ k, Cert.Spec.conv (args V0) b s k) (Ideal.ofBits .f32 0x44800000#32) := by
  rw [← funext (v255_at V0 b s)]
  pointwise [v259, res_main_v259]

theorem v261_at (b : Fin 4) (s : Fin 4096) (q : Fin 1024) : v261 V0 (ix3 b s q)
    = Cert.Spec.conv (args V0) b s q - Ideal.div (∑ k, Cert.Spec.conv (args V0) b s k) (Ideal.ofBits .f32 0x44800000#32) := by
  rw [← v259_at, ← v255_at]
  pointwise [v261, res_main_v261]

theorem v279_at (b : Fin 4) (s : Fin 4096) (q : Fin 1024) :
    v279 V0 (ix3 b s q) = Cert.Spec.ln (Cert.Spec.conv (args V0) b s) (args V0).cg (args V0).cs q := by
  unfold Cert.Spec.ln
  simp only [← v261_at V0 b s]
  rw [v261_at, ← v259_at, ← v255_at]
  pointwise [v279, res_main_v279, args]

end Cert.ReferenceIdeal.Ref

end
-- ==== Proof.Ref.Sgu.lean ====
module

public import proofs.«01_k».proof.Proof.Ref.Base
public import Idealize.ShloMosaic.Lib.WordCmp

@[expose] public section

set_option maxRecDepth 16384

/-! The reference's spatial unit. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The reference's test of the lower triangle, on its row and column words. -/
theorem tril (a b : Fin 128) (p q : EReal) :
    Scalar.select (IntOp.cmpi CmpIPredicate.sge (IntOp.addi (BitVec.ofNat 32 a.val) 0#32) (BitVec.ofNat 32 b.val)) p q
      = if b.val ≤ a.val then p else q := by
  show Scalar.select (IntOp.cmpi CmpIPredicate.sge (BitVec.ofNat 32 a.val + 0#32) (BitVec.ofNat 32 b.val)) p q = _
  rw [BitVec.add_zero]
  have ha := a.isLt
  have hb := b.isLt
  word_cmp

/-- The channels the spatial unit mixes. -/
abbrev v285 : FVec Ideal S4x4096x1024 .f32 := res_main_v285 V0
/-- Their mean at a token. -/
abbrev v289 : FVec Ideal S4x4096x1 .f32 := res_main_v289 V0
/-- The centred channels. -/
abbrev v291 : FVec Ideal S4x4096x1024 .f32 := res_main_v291 V0

/-- The channels the spatial unit mixes, normed. -/
def vn : FVec Ideal S4x4096x1024 .f32 :=
  addf (mulf (mulf (subf (v285 V0) (broadcastInDim S4x4096x1024 ![0, 1, 2] bcast_S4x4096x1_S4x4096x1024_0_1_2 (v289 V0))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (v291 V0) (v291 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (a10 V0)))) (broadcastInDim S4x4096x1024 ![0, 1, 2] bcast_S1x1x1024_S4x4096x1024_0_1_2 (broadcastInDim S1x1x1024 ![2] bcast_S1024_S1x1x1024_2 (a11 V0)))

/-- The spatial unit's weights below and on the diagonal, zero above. -/
def wt : FVec Ideal S8x128x128 .f32 :=
  mulf (a12 V0) (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The spatial unit. -/
def mixed : FVec Ideal S4x4096x1024 .f32 :=
  shapeCast _ (addf (transpose S4x32x128x8x128 [1, 2, 4, 0, 3] (Host.dotGeneral dot_S4x32x128x8x128_S8x128x128_S8x4x32x128x128_2_2_014_1_3_0 none (shapeCast _ (vn V0) shapeCasts_S4x4096x1024_S4x32x128x8x128) (wt V0)) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3] bcast_S128x8_S1x1x128x8x1_2_3 (transpose S128x8 [1, 0] (a13 V0) transposes_S8x128_S128x8_1_0)))) shapeCasts_S4x32x128x8x128_S4x4096x1024

theorem v285_at (b : Fin 4) (s : Fin 4096) (q : Fin 1024) :
    v285 V0 (ix3 b s q) = Cert.Spec.p (args V0) b s ⟨11312 + q.val, by omega⟩ := by
  have h : v285 V0 (ix3 b s q) = v18 V0 (ix3 b s ⟨1024 + q.val, by omega⟩) := by pointwise [v285, res_main_v285]
  rw [h, v18_at]
  congr 1
  ext
  simp only
  omega

theorem v289_at (b : Fin 4) (s : Fin 4096) : v289 V0 (ix3 b s 0)
    = Ideal.div (∑ k : Fin 1024, Cert.Spec.p (args V0) b s ⟨11312 + k.val, by omega⟩) (Ideal.ofBits .f32 0x44800000#32) := by
  simp only [← v285_at V0 b s]
  pointwise [v289, res_main_v289]

theorem v291_at (b : Fin 4) (s : Fin 4096) (q : Fin 1024) : v291 V0 (ix3 b s q)
    = Cert.Spec.p (args V0) b s ⟨11312 + q.val, by omega⟩
      - Ideal.div (∑ k : Fin 1024, Cert.Spec.p (args V0) b s ⟨11312 + k.val, by omega⟩) (Ideal.ofBits .f32 0x44800000#32) := by
  rw [← v289_at, ← v285_at]
  pointwise [v291, res_main_v291]

theorem vn_at (b : Fin 4) (s : Fin 4096) (q : Fin 1024) : vn V0 (ix3 b s q) = Cert.Spec.v (args V0) b s q := by
  unfold Cert.Spec.v Cert.Spec.ln
  simp only [← v291_at V0 b s]
  rw [v291_at, ← v289_at, ← v285_at]
  pointwise [vn, args]

theorem wt_at (g : Fin 8) (t k : Fin 128) : wt V0 (ix3 g t k) = if k.val ≤ t.val then (args V0).sw g t k else 0 := by
  pointwise [wt, args]
  exact tril t k _ _

theorem mixed_at (b : Fin 4) (s : Fin 4096) (q : Fin 1024) : mixed V0 (ix3 b s q) = Cert.Spec.mix (args V0) b s q := by
  unfold Cert.Spec.mix
  simp only [← wt_at V0 ⟨q.val / 128, by omega⟩ ⟨s.val % 128, by omega⟩, ← vn_at V0]
  pointwise [mixed, Cert.Spec.dot]
  exact congrArg₂ (fun a b : EReal => a + b) (Finset.sum_congr rfl fun x _ => mul_comm (G := EReal) _ _) rfl

end Cert.ReferenceIdeal.Ref

end
-- ==== Proof.Ref.Result.lean ====
module

public import proofs.«01_k».proof.Proof.Ref.ConvNorm
public import proofs.«01_k».proof.Proof.Ref.Sgu

@[expose] public section

set_option maxRecDepth 16384

/-! The reference's branches, their merge and its result, token by token. -/

noncomputable section

namespace Cert.ReferenceIdeal.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The merge's gates. -/
abbrev v333 : FVec Ideal S4x4096x3x4096 .f32 := res_main_v333 V0

theorem v333_at (b : Fin 4) (s : Fin 4096) (i : Fin 3) (j : Fin 4096) :
    v333 V0 (ix4 b s i j) = Cert.Spec.sigm (Cert.Spec.p (args V0) b s ⟨13360 + (i.val * 4096 + j.val), by omega⟩) := by
  rw [← p_of V0 b s _ _ fun _ => rfl]
  pointwise [v333, res_main_v333, Cert.Spec.dot, Cert.Spec.sigm]

/-- The convolution branch. -/
def obv : FVec Ideal S4x4096x1024 .f32 :=
  mulf (mulf (v279 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (v279 V0)))))) (mulf (v16 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (v16 V0))))))

theorem obv_at (b : Fin 4) (s : Fin 4096) (q : Fin 1024) : obv V0 (ix3 b s q) = Cert.Spec.ob (args V0) b s q := by
  unfold Cert.Spec.ob
  rw [← v279_at, ← v16_at]
  pointwise [obv, Cert.Spec.silu, Cert.Spec.sigm]

/-- The spatial branch. -/
def ocv : FVec Ideal S4x4096x1024 .f32 :=
  mulf (mulf (extractStridedSlice S4x4096x1024 ![0, 0, 0] (v18 V0) slices_S4x4096x2048_S4x4096x1024_0_0_0) (mixed V0)) (mulf (v20 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (v20 V0))))))

theorem ocv_at (b : Fin 4) (s : Fin 4096) (q : Fin 1024) : ocv V0 (ix3 b s q) = Cert.Spec.oc (args V0) b s q := by
  unfold Cert.Spec.oc
  rw [← mixed_at, ← v20_at, ← v18_at V0 b s ⟨q.val, by omega⟩]
  pointwise [ocv, Cert.Spec.silu, Cert.Spec.sigm]

/-- The merged branches. -/
def mergedv : FVec Ideal S4x4096x4096 .f32 :=
  addf (addf (mulf (shapeCast _ (extractStridedSlice S4x4096x1x4096 ![0, 0, 0, 0] (v333 V0) slices_S4x4096x3x4096_S4x4096x1x4096_0_0_0_0) shapeCasts_S4x4096x1x4096_S4x4096x4096) (Host.dotGeneral dot_S4x4096x2048_S2048x4096_S4x4096x4096_2_0_01_1_n_n none (extf .f32 (a2 V0) bitsLt_bf16_f32) (a8 V0))) (mulf (shapeCast _ (extractStridedSlice S4x4096x1x4096 ![0, 0, 1, 0] (v333 V0) slices_S4x4096x3x4096_S4x4096x1x4096_0_0_1_0) shapeCasts_S4x4096x1x4096_S4x4096x4096) (Host.dotGeneral dot_S4x4096x1024_S1024x4096_S4x4096x4096_2_0_01_1_n_n none (obv V0) (a9 V0)))) (mulf (shapeCast _ (extractStridedSlice S4x4096x1x4096 ![0, 0, 2, 0] (v333 V0) slices_S4x4096x3x4096_S4x4096x1x4096_0_0_2_0) shapeCasts_S4x4096x1x4096_S4x4096x4096) (Host.dotGeneral dot_S4x4096x1024_S1024x4096_S4x4096x4096_2_0_01_1_n_n none (ocv V0) (a14 V0)))

theorem mergedv_at (b : Fin 4) (s j : Fin 4096) : mergedv V0 (ix3 b s j) = Cert.Spec.merged (args V0) b s j := by
  have g0 := v333_at V0 b s 0 j
  have g1 := v333_at V0 b s 1 j
  have g2 := v333_at V0 b s 2 j
  have e0 : (⟨13360 + ((0 : Fin 3).val * 4096 + j.val), by simp only [Fin.val_zero]; omega⟩ : Fin 25648) = ⟨13360 + j.val, by omega⟩ := by
    ext; simp only [Fin.val_zero]; omega
  have e1 : (⟨13360 + ((1 : Fin 3).val * 4096 + j.val), by simp only [Fin.val_one]; omega⟩ : Fin 25648) = ⟨17456 + j.val, by omega⟩ := by
    ext; simp only [Fin.val_one]; omega
  have e2 : (⟨13360 + ((2 : Fin 3).val * 4096 + j.val), by simp only [Fin.val_two]; omega⟩ : Fin 25648) = ⟨21552 + j.val, by omega⟩ := by
    ext; simp only [Fin.val_two]; omega
  rw [e0] at g0
  rw [e1] at g1
  rw [e2] at g2
  unfold Cert.Spec.merged
  rw [← g0, ← g1, ← g2, ← funext (obv_at V0 b s), ← funext (ocv_at V0 b s)]
  pointwise [mergedv, Cert.Spec.dot, args]

/-- The residual stream. -/
abbrev v346 : FVec Ideal S4x4096x4096 .f32 := res_main_v346 V0

theorem v346_eq : v346 V0 = addf (a0 V0) (Host.dotGeneral dot_S4x4096x4096_S4096x4096_S4x4096x4096_2_0_01_1_n_n none (mergedv V0) (a15 V0)) := rfl

theorem v346_at (b : Fin 4) (s j : Fin 4096) : v346 V0 (ix3 b s j) = Cert.Spec.resid (args V0) b s j := by
  rw [v346_eq]
  unfold Cert.Spec.resid
  rw [← funext (mergedv_at V0 b s)]
  pointwise [Cert.Spec.dot, args]

/-- The reference's result. -/
def v360 : FVec Ideal S16384x4096 .f32 :=
  shapeCast _ (mulf (mulf (v346 V0) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (v346 V0) (v346 V0)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (a16 V0)))) shapeCasts_S4x4096x4096_S16384x4096

theorem v360_at (R : Fin 16384) (j : Fin 4096) :
    v360 V0 (ix2 R j) = Cert.Spec.result (args V0) ⟨R.val / 4096, by omega⟩ ⟨R.val % 4096, by omega⟩ j := by
  unfold Cert.Spec.result
  rw [← funext (v346_at V0 _ _)]
  pointwise [v360, Cert.Spec.rms, args]

end Cert.ReferenceIdeal.Ref

end
-- ==== Proof.Join.Equal.lean ====
module

public import proofs.«01_k».proof.Proof.Part.Run
public import proofs.«01_k».proof.Proof.Part.Value
public import proofs.«01_k».proof.Proof.Ref.Result

@[expose] public section

set_option maxRecDepth 16384

/-! From equal arguments, the kernel's result and the reference's are the same array. -/

noncomputable section

namespace Cert.Join

open Idealize.ShloMosaic Idealize.ShloMosaic.TcCoe Idealize.SL.Sem

/-- The two programs' arguments agree on a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

theorem args_eq (h : Agree m m' c) :
    Cert.ReferenceIdeal.Ref.args (StableHlo.launchContents m' c) = Cert.KernelIdeal.Part.args m c := by
  obtain ⟨h0, h1, h2, h3, h4, h5, h6, h7, h8, h9, h10, h11, h12, h13, h14, h15, h16⟩ := h
  have e0 : Cert.ReferenceIdeal.Ref.a0 (StableHlo.launchContents m' c) = Cert.KernelIdeal.Part.a0 m c := h0
  have e1 : Cert.ReferenceIdeal.Ref.a1 (StableHlo.launchContents m' c) = Cert.KernelIdeal.Part.a1 m c := h1
  have e2 : Cert.ReferenceIdeal.Ref.a2 (StableHlo.launchContents m' c) = Cert.KernelIdeal.Part.a2 m c := h2
  have e3 : Cert.ReferenceIdeal.Ref.a3 (StableHlo.launchContents m' c) = Cert.KernelIdeal.Part.a3 m c := h3
  have e4 : Cert.ReferenceIdeal.Ref.a4 (StableHlo.launchContents m' c) = Cert.KernelIdeal.Part.a4 m c := h4
  have e5 : Cert.ReferenceIdeal.Ref.a5 (StableHlo.launchContents m' c) = Cert.KernelIdeal.Part.a5 m c := h5
  have e6 : Cert.ReferenceIdeal.Ref.a6 (StableHlo.launchContents m' c) = Cert.KernelIdeal.Part.a6 m c := h6
  have e7 : Cert.ReferenceIdeal.Ref.a7 (StableHlo.launchContents m' c) = Cert.KernelIdeal.Part.a7 m c := h7
  have e8 : Cert.ReferenceIdeal.Ref.a8 (StableHlo.launchContents m' c) = Cert.KernelIdeal.Part.a8 m c := h8
  have e9 : Cert.ReferenceIdeal.Ref.a9 (StableHlo.launchContents m' c) = Cert.KernelIdeal.Part.a9 m c := h9
  have e10 : Cert.ReferenceIdeal.Ref.a10 (StableHlo.launchContents m' c) = Cert.KernelIdeal.Part.a10 m c := h10
  have e11 : Cert.ReferenceIdeal.Ref.a11 (StableHlo.launchContents m' c) = Cert.KernelIdeal.Part.a11 m c := h11
  have e12 : Cert.ReferenceIdeal.Ref.a12 (StableHlo.launchContents m' c) = Cert.KernelIdeal.Part.a12 m c := h12
  have e13 : Cert.ReferenceIdeal.Ref.a13 (StableHlo.launchContents m' c) = Cert.KernelIdeal.Part.a13 m c := h13
  have e14 : Cert.ReferenceIdeal.Ref.a14 (StableHlo.launchContents m' c) = Cert.KernelIdeal.Part.a14 m c := h14
  have e15 : Cert.ReferenceIdeal.Ref.a15 (StableHlo.launchContents m' c) = Cert.KernelIdeal.Part.a15 m c := h15
  have e16 : Cert.ReferenceIdeal.Ref.a16 (StableHlo.launchContents m' c) = Cert.KernelIdeal.Part.a16 m c := h16
  unfold Cert.ReferenceIdeal.Ref.args Cert.KernelIdeal.Part.args
  rw [e0, e1, e2, e3, e4, e5, e6, e7, e8, e9, e10, e11, e12, e13, e14, e15, e16]

/-- The results agree. -/
theorem result_eq (h : Agree m m' c) :
    Cert.ReferenceIdeal.Ref.v360 (StableHlo.launchContents m' c) = Cert.KernelIdeal.Part.r28 m c := by
  funext i
  have hi : i = ix2 (i 0) (i 1) := by idx_vars i; rfl
  rw [hi]
  refine (Cert.ReferenceIdeal.Ref.v360_at _ (i 0) (i 1)).trans (Eq.trans ?_ (Cert.KernelIdeal.Part.r28_at m c (i 0) (i 1)).symm)
  rw [args_eq h]

end Cert.Join

end
-- ==== Proof.Feed.Norm.lean ====
module

public import proofs.«01_k».proof.Proof.Gen.Kernel2Ideal.Frame
public import Idealize.ShloMosaic.Lib.Pipeline.ValueKit
public import proofs.«01_k».proof.Proof.Spec

@[expose] public section

set_option maxRecDepth 16384

/-! The first call: the norm of the input. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx0 : ∀ t : Fin cfg0.N, win0_0.index t = ![t.val, 0] ∧ win0_1.index t = ![0, 0] ∧ win0_2.index t = ![t.val, 0] :=
  (by decide +kernel : ∀ t : Fin grid0.N, _)

/-- The array the call leaves: every row normalised. -/
def G0 (x : FVec Ideal S16384x4096 .f32) (g : FVec Ideal S1x4096 .f32) : FVec Ideal S16384x4096 .bf16 := fun i =>
  Cert.Spec.rms (fun k => x (ix2 (i 0) k)) (fun k => g (ix2 0 k)) (i 1)

theorem final0 (c : Dev nD) : (dat0 V c).arrAt 2 cfg0.N = G0 (V c main_v0) (V c main_v11) := by
  refine (dat0 V c).arrAt_eq_of_covers 2 _ (by decide +kernel) fun t hf y => ?_
  blk_simp
  rw [after0_2]; frame_out
  pointwise [k0_pay1, G0, Cert.Spec.rms]
  blk_point [iblk0, idx0 t]

end Cert.Kernel2Ideal.Feed
-- ==== Proof.Feed.Query.lean ====
module

public import proofs.«01_k».proof.Proof.Gen.Kernel2Ideal.Frame
public import Idealize.ShloMosaic.Lib.Pipeline.ValueKit
public import proofs.«01_k».proof.Proof.Spec

@[expose] public section

set_option maxRecDepth 16384

/-! The second call: the queries, scaled. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx1 : ∀ t : Fin cfg1.N, win1_0.index t = ![t.val % 16, 0]
    ∧ win1_1.index t = ![1024 * (t.val / 16), 0] ∧ win1_2.index t = ![t.val % 16, t.val / 16] :=
  (by decide +kernel : ∀ t : Fin grid1.N, _)

/-- The weight rows that window 1 of the call reads at a point, at coordinates. -/
theorem rows1 (c : Dev nD) (t : Fin cfg1.N) (a : Fin 1024) (k : Fin 4096) (j : Fin 25648) (hj : j.val = (1024 * (t.val / 16)) + a.val) :
    (iblk1 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win1_1 t (ix2 a k) b).trans ?_
  rw [(idx1 t).2.1]
  match b with
  | 0 => exact hj.symm
  | 1 => exact Nat.zero_add _

/-- The weight row behind column `j` of the result. -/
def col1 (j : Fin 2048) : Fin 25648 := ⟨j.val, by first | omega | (split <;> omega) | (split <;> [skip; split] <;> omega)⟩

/-- The array the call leaves. -/
def G1 (h : FVec Ideal S16384x4096 .bf16) (w : FVec Ideal S25648x4096 .bf16) : FVec Ideal S16384x2048 .bf16 := fun i =>
  (Cert.Spec.dot (fun k : Fin 4096 => h (ix2 (i 0) k)) (fun k => w (ix2 (col1 (i 1)) k))) * Ideal.ofBits .f32 0x3E0293EE#32

theorem final1 (c : Dev nD) : (dat1 V c).arrAt 2 cfg1.N = G1 (V c main_v12) (V c main_v2) := by
  refine (dat1 V c).arrAt_eq_of_covers 2 _ (by decide +kernel) fun t hf y => ?_
  blk_simp
  rw [after1_2]; frame_out
  have key : Cert.Spec.dot (fun k : Fin 4096 => (iblk1 V c 0 t : FVec Ideal S1024x4096 .bf16) (ix2 (y 0) k))
        (fun k => (iblk1 V c 1 t : FVec Ideal S1024x4096 .bf16) (ix2 (y 1) k))
      = Cert.Spec.dot (fun k : Fin 4096 => (V c main_v12 : FVec Ideal S16384x4096 .bf16) (ix2 (((cfg1.win 2).blk t).view.emb y 0) k))
        (fun k => (V c main_v2 : FVec Ideal S25648x4096 .bf16) (ix2 (col1 (((cfg1.win 2).blk t).view.emb y 1)) k)) := by
    refine Cert.Spec.dot_congr (fun k => ?_) (fun k => rows1 V c t _ k _ ?_)
    · blk_point [iblk1, idx1 t]
    · blk_simp [idx1 t, col1]
      idx_bounds
      dsimp only
      first | omega | (split_ifs <;> omega)
  pointwise [k1_pay1, G1]
  exact congrArg (fun a : EReal => a * Ideal.ofBits .f32 0x3E0293EE#32) key

end Cert.Kernel2Ideal.Feed
-- ==== Proof.Feed.Plain.lean ====
module

public import proofs.«01_k».proof.Proof.Gen.Kernel2Ideal.Frame
public import Idealize.ShloMosaic.Lib.Pipeline.ValueKit
public import proofs.«01_k».proof.Proof.Spec

@[expose] public section

set_option maxRecDepth 16384

/-! The third call: projections without an activation, three blocks of 1024 columns. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx2 : ∀ t : Fin cfg2.N, win2_0.index t = ![t.val % 16, 0]
    ∧ win2_1.index t = ![if t.val < 32 then 3072 + 1024 * (t.val / 16) else 10288, 0] ∧ win2_2.index t = ![t.val % 16, t.val / 16] :=
  (by decide +kernel : ∀ t : Fin grid2.N, _)

/-- The weight rows that window 1 of the call reads at a point, at coordinates. -/
theorem rows2 (c : Dev nD) (t : Fin cfg2.N) (a : Fin 1024) (k : Fin 4096) (j : Fin 25648) (hj : j.val = (if t.val < 32 then 3072 + 1024 * (t.val / 16) else 10288) + a.val) :
    (iblk2 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win2_1 t (ix2 a k) b).trans ?_
  rw [(idx2 t).2.1]
  match b with
  | 0 => exact hj.symm
  | 1 => exact Nat.zero_add _

/-- The weight row behind column `j` of the result. -/
def col2 (j : Fin 3072) : Fin 25648 := ⟨if j.val < 2048 then 3072 + j.val else 8240 + j.val, by first | omega | (split <;> omega) | (split <;> [skip; split] <;> omega)⟩

/-- The array the call leaves. -/
def G2 (h : FVec Ideal S16384x4096 .bf16) (w : FVec Ideal S25648x4096 .bf16) : FVec Ideal S16384x3072 .bf16 := fun i =>
  (Cert.Spec.dot (fun k : Fin 4096 => h (ix2 (i 0) k)) (fun k => w (ix2 (col2 (i 1)) k)))

theorem final2 (c : Dev nD) : (dat2 V c).arrAt 2 cfg2.N = G2 (V c main_v12) (V c main_v2) := by
  refine (dat2 V c).arrAt_eq_of_covers 2 _ (by decide +kernel) fun t hf y => ?_
  blk_simp
  rw [after2_2]; frame_out
  have key : Cert.Spec.dot (fun k : Fin 4096 => (iblk2 V c 0 t : FVec Ideal S1024x4096 .bf16) (ix2 (y 0) k))
        (fun k => (iblk2 V c 1 t : FVec Ideal S1024x4096 .bf16) (ix2 (y 1) k))
      = Cert.Spec.dot (fun k : Fin 4096 => (V c main_v12 : FVec Ideal S16384x4096 .bf16) (ix2 (((cfg2.win 2).blk t).view.emb y 0) k))
        (fun k => (V c main_v2 : FVec Ideal S25648x4096 .bf16) (ix2 (col2 (((cfg2.win 2).blk t).view.emb y 1)) k)) := by
    refine Cert.Spec.dot_congr (fun k => ?_) (fun k => rows2 V c t _ k _ ?_)
    · blk_point [iblk2, idx2 t]
    · blk_simp [idx2 t, col2]
      idx_bounds
      dsimp only
      first | omega | (split_ifs <;> omega)
  pointwise [k2_pay1, G2]
  exact key

end Cert.Kernel2Ideal.Feed
-- ==== Proof.Feed.Single.lean ====
module

public import proofs.«01_k».proof.Proof.Gen.Kernel2Ideal.Frame
public import Idealize.ShloMosaic.Lib.Pipeline.ValueKit
public import proofs.«01_k».proof.Proof.Spec

@[expose] public section

set_option maxRecDepth 16384

/-! The fourth call: projections kept in single precision, two blocks of 1024 columns. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx3 : ∀ t : Fin cfg3.N, win3_0.index t = ![t.val % 16, 0]
    ∧ win3_1.index t = ![if t.val < 16 then 2048 else 11312, 0] ∧ win3_2.index t = ![t.val % 16, t.val / 16] :=
  (by decide +kernel : ∀ t : Fin grid3.N, _)

/-- The weight rows that window 1 of the call reads at a point, at coordinates. -/
theorem rows3 (c : Dev nD) (t : Fin cfg3.N) (a : Fin 1024) (k : Fin 4096) (j : Fin 25648) (hj : j.val = (if t.val < 16 then 2048 else 11312) + a.val) :
    (iblk3 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win3_1 t (ix2 a k) b).trans ?_
  rw [(idx3 t).2.1]
  match b with
  | 0 => exact hj.symm
  | 1 => exact Nat.zero_add _

/-- The weight row behind column `j` of the result. -/
def col3 (j : Fin 2048) : Fin 25648 := ⟨if j.val < 1024 then 2048 + j.val else 10288 + j.val, by first | omega | (split <;> omega) | (split <;> [skip; split] <;> omega)⟩

/-- The array the call leaves. -/
def G3 (h : FVec Ideal S16384x4096 .bf16) (w : FVec Ideal S25648x4096 .bf16) : FVec Ideal S16384x2048 .f32 := fun i =>
  (Cert.Spec.dot (fun k : Fin 4096 => h (ix2 (i 0) k)) (fun k => w (ix2 (col3 (i 1)) k)))

theorem final3 (c : Dev nD) : (dat3 V c).arrAt 2 cfg3.N = G3 (V c main_v12) (V c main_v2) := by
  refine (dat3 V c).arrAt_eq_of_covers 2 _ (by decide +kernel) fun t hf y => ?_
  blk_simp
  rw [after3_2]; frame_out
  have key : Cert.Spec.dot (fun k : Fin 4096 => (iblk3 V c 0 t : FVec Ideal S1024x4096 .bf16) (ix2 (y 0) k))
        (fun k => (iblk3 V c 1 t : FVec Ideal S1024x4096 .bf16) (ix2 (y 1) k))
      = Cert.Spec.dot (fun k : Fin 4096 => (V c main_v12 : FVec Ideal S16384x4096 .bf16) (ix2 (((cfg3.win 2).blk t).view.emb y 0) k))
        (fun k => (V c main_v2 : FVec Ideal S25648x4096 .bf16) (ix2 (col3 (((cfg3.win 2).blk t).view.emb y 1)) k)) := by
    refine Cert.Spec.dot_congr (fun k => ?_) (fun k => rows3 V c t _ k _ ?_)
    · blk_point [iblk3, idx3 t]
    · blk_simp [idx3 t, col3]
      idx_bounds
      dsimp only
      first | omega | (split_ifs <;> omega)
  pointwise [k3_pay1, G3]
  exact key

end Cert.Kernel2Ideal.Feed
-- ==== Proof.Feed.Gated.lean ====
module

public import proofs.«01_k».proof.Proof.Gen.Kernel2Ideal.Frame
public import Idealize.ShloMosaic.Lib.Pipeline.ValueKit
public import proofs.«01_k».proof.Proof.Spec

@[expose] public section

set_option maxRecDepth 16384

/-! The fifth call: projections through the SiLU, four blocks of 1024 columns. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx4 : ∀ t : Fin cfg4.N, win4_0.index t = ![t.val % 16, 0]
    ∧ win4_1.index t = ![if t.val < 32 then 5168 + 1024 * (t.val / 16) else if t.val < 48 then 9264 else 12336, 0] ∧ win4_2.index t = ![t.val % 16, t.val / 16] :=
  (by decide +kernel : ∀ t : Fin grid4.N, _)

/-- The weight rows that window 1 of the call reads at a point, at coordinates. -/
theorem rows4 (c : Dev nD) (t : Fin cfg4.N) (a : Fin 1024) (k : Fin 4096) (j : Fin 25648) (hj : j.val = (if t.val < 32 then 5168 + 1024 * (t.val / 16) else if t.val < 48 then 9264 else 12336) + a.val) :
    (iblk4 V c 1 t : FVec Ideal S1024x4096 .bf16) (ix2 a k) = (V c main_v2 : FVec Ideal S25648x4096 .bf16) (ix2 j k) := by
  refine congrArg (V c main_v2) (funext fun b => Fin.ext ?_)
  refine (Pipeline.Window.rect_emb_val_off win4_1 t (ix2 a k) b).trans ?_
  rw [(idx4 t).2.1]
  match b with
  | 0 => exact hj.symm
  | 1 => exact Nat.zero_add _

/-- The weight row behind column `j` of the result. -/
def col4 (j : Fin 4096) : Fin 25648 := ⟨if j.val < 2048 then 5168 + j.val else if j.val < 3072 then 7216 + j.val else 9264 + j.val, by first | omega | (split <;> omega) | (split <;> [skip; split] <;> omega)⟩

/-- The array the call leaves. -/
def G4 (h : FVec Ideal S16384x4096 .bf16) (w : FVec Ideal S25648x4096 .bf16) : FVec Ideal S16384x4096 .bf16 := fun i =>
  Cert.Spec.silu (Cert.Spec.dot (fun k : Fin 4096 => h (ix2 (i 0) k)) (fun k => w (ix2 (col4 (i 1)) k)))

theorem final4 (c : Dev nD) : (dat4 V c).arrAt 2 cfg4.N = G4 (V c main_v12) (V c main_v2) := by
  refine (dat4 V c).arrAt_eq_of_covers 2 _ (by decide +kernel) fun t hf y => ?_
  blk_simp
  rw [after4_2]; frame_out
  have key : Cert.Spec.dot (fun k : Fin 4096 => (iblk4 V c 0 t : FVec Ideal S1024x4096 .bf16) (ix2 (y 0) k))
        (fun k => (iblk4 V c 1 t : FVec Ideal S1024x4096 .bf16) (ix2 (y 1) k))
      = Cert.Spec.dot (fun k : Fin 4096 => (V c main_v12 : FVec Ideal S16384x4096 .bf16) (ix2 (((cfg4.win 2).blk t).view.emb y 0) k))
        (fun k => (V c main_v2 : FVec Ideal S25648x4096 .bf16) (ix2 (col4 (((cfg4.win 2).blk t).view.emb y 1)) k)) := by
    refine Cert.Spec.dot_congr (fun k => ?_) (fun k => rows4 V c t _ k _ ?_)
    · blk_point [iblk4, idx4 t]
    · blk_simp [idx4 t, col4]
      idx_bounds
      dsimp only
      first | omega | (split_ifs <;> omega)
  pointwise [k4_pay1, G4]
  exact Cert.Spec.silu_of key

end Cert.Kernel2Ideal.Feed
-- ==== Proof.Feed.Gate.lean ====
module

public import proofs.«01_k».proof.Proof.Gen.Kernel2Ideal.Frame
public import Idealize.ShloMosaic.Lib.Pipeline.ValueKit
public import proofs.«01_k».proof.Proof.Spec

@[expose] public section

set_option maxRecDepth 16384

/-! The sixth call: the gates of the attention branches, through the logistic function, in one block of 128 columns. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block each window is at, point by point. -/
theorem idx5 : ∀ t : Fin cfg5.N, win5_0.index t = ![t.val % 16, 0]
    ∧ win5_1.index t = ![0, 0] ∧ win5_2.index t = ![t.val % 16, t.val / 16] :=
  (by decide +kernel : ∀ t : Fin grid5.N, _)

/-- The weight rows that window 1 of the call reads at a point, at coordinates. -/
theorem rows5 (c : Dev nD) (t : Fin cfg5.N) (a : Fin 128) (k : Fin 4096) (j : Fin 128) (hj : j.val = (0) + a.val) :
    (iblk5 V c 1 t : FVec Ideal S128x4096 .bf16) (ix2 a k) = (V c main_v10 : FVec Ideal S128x4096 .bf16) (ix2 j k) := by
  refine congrArg (V c main_v10) (funext fun b => Fin.ext ?_)
  refine (Pipeline.Window.rect_emb_val_off win5_1 t (ix2 a k) b).trans ?_
  rw [(idx5 t).2.1]
  match b with
  | 0 => exact hj.symm
  | 1 => exact Nat.zero_add _

/-- The weight row behind column `j` of the result. -/
def col5 (j : Fin 128) : Fin 128 := ⟨j.val, by first | omega | (split <;> omega) | (split <;> [skip; split] <;> omega)⟩

/-- The array the call leaves. -/
def G5 (h : FVec Ideal S16384x4096 .bf16) (w : FVec Ideal S128x4096 .bf16) : FVec Ideal S16384x128 .f32 := fun i =>
  Cert.Spec.sigm (Cert.Spec.dot (fun k : Fin 4096 => h (ix2 (i 0) k)) (fun k => w (ix2 (col5 (i 1)) k)))

theorem final5 (c : Dev nD) : (dat5 V c).arrAt 2 cfg5.N = G5 (V c main_v12) (V c main_v10) := by
  refine (dat5 V c).arrAt_eq_of_covers 2 _ (by decide +kernel) fun t hf y => ?_
  blk_simp
  rw [after5_2]; frame_out
  have key : Cert.Spec.dot (fun k : Fin 4096 => (iblk5 V c 0 t : FVec Ideal S1024x4096 .bf16) (ix2 (y 0) k))
        (fun k => (iblk5 V c 1 t : FVec Ideal S128x4096 .bf16) (ix2 (y 1) k))
      = Cert.Spec.dot (fun k : Fin 4096 => (V c main_v12 : FVec Ideal S16384x4096 .bf16) (ix2 (((cfg5.win 2).blk t).view.emb y 0) k))
        (fun k => (V c main_v10 : FVec Ideal S128x4096 .bf16) (ix2 (col5 (((cfg5.win 2).blk t).view.emb y 1)) k)) := by
    refine Cert.Spec.dot_congr (fun k => ?_) (fun k => rows5 V c t _ k _ ?_)
    · blk_point [iblk5, idx5 t]
    · blk_simp [idx5 t, col5]
      idx_bounds
      dsimp only
      first | omega | (split_ifs <;> omega)
  pointwise [k5_pay1, G5]
  exact Cert.Spec.sigm_of key

end Cert.Kernel2Ideal.Feed
-- ==== Proof.Feed.Compress.lean ====
module

public import proofs.«01_k».proof.Proof.Gen.Kernel2Ideal.Frame
public import Idealize.ShloMosaic.Lib.Pipeline.ValueKit
public import Idealize.ShloMosaic.Lib.WholeRead
public import proofs.«01_k».proof.Proof.Spec

@[expose] public section

set_option maxRecDepth 16384

/-! The seventh call, the compression of the keys and values: what one point of its grid computes from its blocks. -/

noncomputable section

namespace Cert.Kernel2Ideal.Feed

open Cert.Kernel2Ideal Cert.Kernel2Ideal.Gen
open Idealize.ShloMosaic Idealize.ShloMosaic.TcCoe Idealize.SL.Sem
open Idealize.ShloMosaic.Pipeline (Dat)

/-- The part of the hidden layer that place `q` of a window adds, window by window: the token at the place, or sixteen tokens before it. -/
def part (X : FVec Ideal S1x4096x128 .f32) (p : FVec Ideal S1x32x128 .f32) (w : FVec Ideal S1x4096x128 .bf16) (q : Fin 32) : FVec Ideal S256x128 .f32 := fun i =>
  have h0 : (i 0).val < 256 := (i 0).isLt
  Cert.Spec.dot (fun d : Fin 128 => X (ix3 0 ⟨16 * (i 0).val + q.val % 16, by omega⟩ d) + p (ix3 0 q d))
    (fun d : Fin 128 => w (ix3 0 ⟨128 * q.val + d.val, by omega⟩ (i 1)))

/-- One place's product, from the rows it loads. -/
theorem place_at (A : FVec Ideal S1x256x128 .f32) (P : FVec Ideal S1x1x128 .f32) (W : FVec Ideal S1x128x128 .bf16) (i : S256x128.Idx) :
    matmul (F := Ideal) (φ₁ := .bf16) (φ₂ := .bf16) dot_S256x128_S128x128_S256x128_1_0_0_1_n_n none
      (truncf .bf16 (addf (shapeCast S256x128 A shapeCasts_S1x256x128_S256x128)
        (broadcastTo S256x128 (shapeCast S1x128 P shapeCasts_S1x1x128_S1x128) broadcasts_S1x128_S256x128)) bitsLt_bf16_f32)
      (shapeCast (α := Ideal .bf16) S128x128 W shapeCasts_S1x128x128_S128x128)
      (constant S256x128 .f32 0x00000000#32) i
    = Cert.Spec.dot (fun d : Fin 128 => A (ix3 0 (i 0) d) + P (ix3 0 0 d)) (fun d : Fin 128 => W (ix3 0 d (i 1))) := by
  pointwise [Cert.Spec.dot]

/-- One place's product, from the blocks it reads. -/
theorem part_eq {κ} (m : Memref sig κ .vmem S1x4096x128 .f32) (hm : m.IsWhole) (X : FVec Ideal S1x4096x128 .f32) (p : FVec Ideal S1x32x128 .f32)
    (w : FVec Ideal S1x4096x128 .bf16) (l q r : ℕ) (hX hp hw) (hq : q < 32) (hl : l = q % 16) (hr : r = 128 * q) :
    matmul (F := Ideal) (φ₁ := .bf16) (φ₂ := .bf16) dot_S256x128_S128x128_S256x128_1_0_0_1_n_n none
      (truncf .bf16 (addf (shapeCast S256x128 (View.readAt (Elt Ideal) m.view { off := ![0, l, 0], size := ![1, 256, 128], stride := ![1, 16, 1], inb := hX } (hm.unread X) : FVec Ideal S1x256x128 .f32) shapeCasts_S1x256x128_S256x128)
        (broadcastTo S256x128 (shapeCast S1x128 (View.ld (Val := Elt Ideal) (e' := .f32) p (Rect.unit (s := S1x32x128) ![0, q, 0] ![1, 1, 128] hp) : FVec Ideal S1x1x128 .f32) shapeCasts_S1x1x128_S1x128) broadcasts_S1x128_S256x128)) bitsLt_bf16_f32)
      (shapeCast (α := Ideal .bf16) S128x128 (View.ld (Val := Elt Ideal) (e' := .bf16) w (Rect.unit (s := S1x4096x128) ![0, r, 0] ![1, 128, 128] hw) : FVec Ideal S1x128x128 .bf16) shapeCasts_S1x128x128_S128x128)
      (constant S256x128 .f32 0x00000000#32) = part X p w ⟨q, hq⟩ := by
  funext i
  refine (place_at _ _ _ i).trans (Cert.Spec.dot_congr (fun d => congrArg₂ (fun a b : EReal => a + b) ?_ ?_) fun d => ?_)
  · refine (Memref.IsWhole.readAt_unread (Val := Elt Ideal) hm X { off := ![0, l, 0], size := ![1, 256, 128], stride := ![1, 16, 1], inb := hX } (ix3 0 (i 0) d)).trans (congrArg X ?_)
    funext a
    refine Fin.ext ?_
    match a with
    | 0 => rfl
    | 1 => exact (congrArg (· + 16 * (i 0).val) hl).trans (Nat.add_comm _ _)
    | 2 => exact (Nat.zero_add _).trans (Nat.one_mul _)
  · refine View.ld_unit_apply_of (Val := Elt Ideal) (e := .f32) p _ _ hp (ix3 0 0 d) (ix3 0 ⟨q, hq⟩ d) fun a => ?_
    match a with
    | 0 => rfl
    | 1 => rfl
    | 2 => exact (Nat.zero_add _).symm
  · have h : 128 * q + d.val < 4096 := by have := d.isLt; omega
    refine View.ld_unit_apply_of (Val := Elt Ideal) (e := .bf16) w _ _ hw (ix3 0 d (i 1)) (ix3 0 ⟨128 * q + d.val, h⟩ (i 1)) fun a => ?_
    match a with
    | 0 => rfl
    | 1 => exact congrArg (· + d.val) hr.symm
    | 2 => exact (Nat.zero_add _).symm

/-- The last window's mask, as a comparison. -/
theorem sel_lt (n : ℕ) (h : n < 256) (p q : EReal) :
    Scalar.select (IntOp.cmpi CmpIPredicate.slt (BitVec.ofNat 32 n) 255#32) p q = if n < 255 then p else q := by
  word_cmp

/-- What is stored, entry by entry, from the sums over a window's two halves. -/
theorem pay1_at (a b : FVec Ideal S256x128 .f32) (w : FVec Ideal S1x128x128 .bf16) (y : S1x1x256x128.Idx) :
    k6_pay1 (F := Ideal) a b 255#32 w y = if (y 2).val < 255 then
      Cert.Spec.dot (fun e : Fin 128 => Cert.Spec.silu (a (ix2 (y 2) e) + b (ix2 ⟨((y 2).val + 1) % 256, Nat.mod_lt _ (by omega)⟩ e))) (fun e => w (ix3 0 e (y 3))) else 0 := by
  have hy : (y 2).val < 256 := (y 2).isLt
  pointwise [k6_pay1, Cert.Spec.dot, Cert.Spec.silu, Cert.Spec.sigm]
  rw [sel_lt _ hy]
  have e : ((y 2).val + 256 - 255) % 256 = ((y 2).val + 1) % 256 := congrArg (· % 256) (by omega)
  simp only [e, zero_sub]

variable (V : (c : Dev nD) → (b : Ref sig .tc) → Buf (Elt Ideal) ((c : Thread nD τ).loc b))

/-- What a point of the call computes at window `n` and channel `d`. -/
def cmpBlk (X : FVec Ideal S1x4096x128 .f32) (p : FVec Ideal S1x32x128 .f32) (w : FVec Ideal S1x4096x128 .bf16) (w' : FVec Ideal S1x128x128 .bf16)
    (n : Fin 256) (d : Fin 128) : EReal :=
  if n.val < 255 then
    Cert.Spec.dot (fun e : Fin 128 => Cert.Spec.silu ((∑ l : Fin 16, part X p w ⟨l.val, by omega⟩ (ix2 n e))
      + ∑ l : Fin 16, part X p w ⟨16 + l.val, by omega⟩ (ix2 ⟨(n.val + 1) % 256, Nat.mod_lt _ (by omega)⟩ e))) (fun e => w' (ix3 0 e d))
  else 0

/-- A running sum over sixteen places. -/
theorem sum16 (f : Fin 16 → EReal) : ∑ l, f l = 0 + f 0 + f 1 + f 2 + f 3 + f 4 + f 5 + f 6 + f 7 + f 8 + f 9 + f 10 + f 11 + f 12 + f 13 + f 14 + f 15 := by
  simp only [Fin.sum_univ_succ, Fin.sum_univ_zero, zero_add, add_zero, ← add_assoc]
  rfl

set_option maxHeartbeats 1600000 in
/-- What a point leaves in its block. -/
theorem cmp_block (c : Dev nD) (t : Fin cfg6.N) (y : S1x1x256x128.Idx) : outsAt6 (F := Ideal) V c t y
    = cmpBlk (iblk6 V c 0 t) (iblk6 V c 1 t) (iblk6 V c 2 t) (iblk6 V c 3 t) (y 2) (y 3) := by
  unfold outsAt6
  frame_out
  generalize (iblk6 V c 0 t) = X
  generalize (iblk6 V c 1 t) = p
  generalize (iblk6 V c 2 t) = w
  generalize (iblk6 V c 3 t) = w'
  rw [pay1_at]
  unfold cmpBlk
  split
  · refine Cert.Spec.dot_congr (fun e => congrArg Cert.Spec.silu (congrArg₂ (fun a b : EReal => a + b) ?_ ?_)) fun e => ?_
    · simp only [k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31, k6_pay32, k6_pay33, k6_pay34, k6_pay35, k6_pay36, k6_pay37, k6_pay38, k6_pay39, k6_pay40, k6_pay41, k6_pay42, k6_pay43, k6_pay44, k6_pay45, k6_pay46, k6_pay47]
      simp (disch := decide) only [part_eq]
      rw [sum16]
      pointwise
    · simp only [k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31, k6_pay32, k6_pay33, k6_pay34, k6_pay35, k6_pay36, k6_pay37, k6_pay38, k6_pay39, k6_pay40, k6_pay41, k6_pay42, k6_pay43, k6_pay44, k6_pay45, k6_pay46, k6_pay47]
      simp (disch := decide) only [part_eq]
      rw [sum16]
      pointwise
    · blk_point
  · rfl

/-- Which block each window is at, point by point. -/
theorem idx6 : ∀ t : Fin cfg6.N, win6_0.index t = ![t.val / 4 % 4, 0, t.val / 16 * 4 + t.val % 4]
    ∧ win6_1.index t = ![t.val / 16, 0, 0] ∧ win6_2.index t = ![t.val / 16, 0, 0] ∧ win6_3.index t = ![t.val / 16, 0, 0]
    ∧ win6_4.index t = ![t.val / 4, t.val % 4, 0, 0] :=
  (by decide +kernel : ∀ t : Fin grid6.N, _)

/-- What place `q` of a window adds, from the arrays: `r` is 0 for the keys and 1 for the values. -/
def part6 (u : FVec Ideal S4x4096x2048 .f32) (p : FVec Ideal S2x32x128 .f32) (w : FVec Ideal S2x4096x128 .bf16)
    (r : Fin 2) (b g : Fin 4) (q : Fin 32) (n : Fin 256) (e : Fin 128) : EReal :=
  Cert.Spec.dot (fun d : Fin 128 => u (ix3 b ⟨16 * n.val + q.val % 16, by omega⟩ ⟨(r.val * 4 + g.val) * 128 + d.val, by omega⟩) + p (ix3 r q d))
    (fun d : Fin 128 => w (ix3 r ⟨128 * q.val + d.val, by omega⟩ e))

/-- The array the call leaves, by its coordinates. -/
def cmp6 (u : FVec Ideal S4x4096x2048 .f32) (p : FVec Ideal S2x32x128 .f32) (w : FVec Ideal S2x4096x128 .bf16) (w' : FVec Ideal S2x128x128 .bf16)
    (r : Fin 2) (b g : Fin 4) (n : Fin 256) (d : Fin 128) : EReal :=
  if n.val < 255 then
    Cert.Spec.dot (fun e : Fin 128 => Cert.Spec.silu ((∑ l : Fin 16, part6 u p w r b g ⟨l.val, by omega⟩ n e)
      + ∑ l : Fin 16, part6 u p w r b g ⟨16 + l.val, by omega⟩ ⟨(n.val + 1) % 256, Nat.mod_lt _ (by omega)⟩ e)) (fun e => w' (ix3 r e d))
  else 0

/-- The array the call leaves. -/
def G6 (u : FVec Ideal S4x4096x2048 .f32) (p : FVec Ideal S2x32x128 .f32) (w : FVec Ideal S2x4096x128 .bf16) (w' : FVec Ideal S2x128x128 .bf16) :
    FVec Ideal S8x4x256x128 .bf16 := fun i =>
  have h0 : (i 0).val < 8 := (i 0).isLt
  cmp6 u p w w' ⟨(i 0).val / 4, by omega⟩ ⟨(i 0).val % 4, by omega⟩ (i 1) (i 2) (i 3)

/-- The keys' and values' block. -/
theorem read6_0 (c : Dev nD) (t : Fin cfg6.N) (b : Fin 4) (s : Fin 4096) (d : Fin 128) (j : Fin 2048)
    (hb : b.val = t.val / 4 % 4) (hj : j.val = (t.val / 16 * 4 + t.val % 4) * 128 + d.val) :
    (iblk6 V c 0 t : FVec Ideal S1x4096x128 .f32) (ix3 0 s d) = (V c main_v18 : FVec Ideal S4x4096x2048 .f32) (ix3 b s j) := by
  refine congrArg (V c main_v18) (funext fun a => Fin.ext ?_)
  refine (Pipeline.Window.rect_emb_val_off win6_0 t (ix3 0 s d) a).trans ?_
  rw [(idx6 t).1]
  match a with
  | 0 => exact (Nat.mul_one _).trans hb.symm
  | 1 => exact (congrArg (· + _) (Nat.zero_mul _)).trans (Nat.zero_add _)
  | 2 => exact hj.symm

/-- The places' block. -/
theorem read6_1 (c : Dev nD) (t : Fin cfg6.N) (r : Fin 2) (q : Fin 32) (d : Fin 128) (hr : r.val = t.val / 16) :
    (iblk6 V c 1 t : FVec Ideal S1x32x128 .f32) (ix3 0 q d) = (V c main_arg3 : FVec Ideal S2x32x128 .f32) (ix3 r q d) := by
  refine congrArg (V c main_arg3) (funext fun a => Fin.ext ?_)
  refine (Pipeline.Window.rect_emb_val_off win6_1 t (ix3 0 q d) a).trans ?_
  rw [(idx6 t).2.1]
  match a with
  | 0 => exact (Nat.mul_one _).trans hr.symm
  | 1 => exact (congrArg (· + _) (Nat.zero_mul _)).trans (Nat.zero_add _)
  | 2 => exact (congrArg (· + _) (Nat.zero_mul _)).trans (Nat.zero_add _)

/-- The first layer's block. -/
theorem read6_2 (c : Dev nD) (t : Fin cfg6.N) (r : Fin 2) (k : Fin 4096) (d : Fin 128) (hr : r.val = t.val / 16) :
    (iblk6 V c 2 t : FVec Ideal S1x4096x128 .bf16) (ix3 0 k d) = (V c main_v19 : FVec Ideal S2x4096x128 .bf16) (ix3 r k d) := by
  refine congrArg (V c main_v19) (funext fun a => Fin.ext ?_)
  refine (Pipeline.Window.rect_emb_val_off win6_2 t (ix3 0 k d) a).trans ?_
  rw [(idx6 t).2.2.1]
  match a with
  | 0 => exact (Nat.mul_one _).trans hr.symm
  | 1 => exact (congrArg (· + _) (Nat.zero_mul _)).trans (Nat.zero_add _)
  | 2 => exact (congrArg (· + _) (Nat.zero_mul _)).trans (Nat.zero_add _)

/-- The second layer's block. -/
theorem read6_3 (c : Dev nD) (t : Fin cfg6.N) (r : Fin 2) (k : Fin 128) (d : Fin 128) (hr : r.val = t.val / 16) :
    (iblk6 V c 3 t : FVec Ideal S1x128x128 .bf16) (ix3 0 k d) = (V c main_v20 : FVec Ideal S2x128x128 .bf16) (ix3 r k d) := by
  refine congrArg (V c main_v20) (funext fun a => Fin.ext ?_)
  refine (Pipeline.Window.rect_emb_val_off win6_3 t (ix3 0 k d) a).trans ?_
  rw [(idx6 t).2.2.2.1]
  match a with
  | 0 => exact (Nat.mul_one _).trans hr.symm
  | 1 => exact (congrArg (· + _) (Nat.zero_mul _)).trans (Nat.zero_add _)
  | 2 => exact (congrArg (· + _) (Nat.zero_mul _)).trans (Nat.zero_add _)

/-- A block's value is the array's. -/
theorem blk6 (c : Dev nD) (t : Fin cfg6.N) (r : Fin 2) (b g : Fin 4) (hr : r.val = t.val / 16) (hb : b.val = t.val / 4 % 4) (hg : g.val = t.val % 4)
    (n : Fin 256) (d : Fin 128) :
    cmpBlk (iblk6 V c 0 t) (iblk6 V c 1 t) (iblk6 V c 2 t) (iblk6 V c 3 t) n d
      = cmp6 (V c main_v18) (V c main_arg3) (V c main_v19) (V c main_v20) r b g n d := by
  have hp : ∀ (q : Fin 32) (n : Fin 256) (e : Fin 128), part (iblk6 V c 0 t) (iblk6 V c 1 t) (iblk6 V c 2 t) q (ix2 n e)
      = part6 (V c main_v18) (V c main_arg3) (V c main_v19) r b g q n e := fun q n e =>
    Cert.Spec.dot_congr (fun d => congrArg₂ (fun a b : EReal => a + b)
      (read6_0 V c t b _ d _ hb (by rw [← hr, ← hg])) (read6_1 V c t r q d hr)) fun d => read6_2 V c t r _ e hr
  unfold cmpBlk cmp6
  split
  · refine Cert.Spec.dot_congr (fun e => congrArg Cert.Spec.silu (congrArg₂ (fun a b : EReal => a + b) ?_ ?_)) fun e => read6_3 V c t r e d hr
    · exact Finset.sum_congr rfl fun l _ => hp _ _ _
    · exact Finset.sum_congr rfl fun l _ => hp _ _ _
  · rfl

/-- The call's result. -/
theorem final6 (c : Dev nD) : (dat6 V c).arrAt 4 cfg6.N = G6 (V c main_v18) (V c main_arg3) (V c main_v19) (V c main_v20) := by
  refine (dat6 V c).arrAt_eq_of_covers 4 _ (by decide +kernel) fun t hf y => ?_
  blk_simp
  rw [after6_4]
  refine (cmp_block V c t y).trans ?_
  have e : ∀ a, (((View.whole main_v21).slice (win6_4.rect t)).emb y a).val = ![t.val / 4, t.val % 4, 0, 0] a * S1x1x256x128.size a + (y a).val := fun a => by
    refine (Pipeline.Window.rect_emb_val_off win6_4 t y a).trans ?_
    rw [(idx6 t).2.2.2.2]
  have y0 : (y 0).val < 1 := (y 0).isLt
  have y1 : (y 1).val < 1 := (y 1).isLt
  have hN : t.val < 32 := t.isLt
  have e0 : (((View.whole main_v21).slice (win6_4.rect t)).emb y 0).val = t.val / 4 :=
    (e 0).trans (by show t.val / 4 * 1 + (y 0).val = _; omega)
  have e1 : (((View.whole main_v21).slice (win6_4.rect t)).emb y 1).val = t.val % 4 :=
    (e 1).trans (by show t.val % 4 * 1 + (y 1).val = _; omega)
  have e2 : (((View.whole main_v21).slice (win6_4.rect t)).emb y 2).val = (y 2).val :=
    (e 2).trans ((congrArg (· + _) (Nat.zero_mul _)).trans (Nat.zero_add _))
  have e3 : (((View.whole main_v21).slice (win6_4.rect t)).emb y 3).val = (y 3).val :=
    (e 3).trans ((congrArg (· + _) (Nat.zero_mul _)).trans (Nat.zero_add _))
  exact (congrArg₂ (cmpBlk (iblk6 V c 0 t) (iblk6 V c 1 t) (iblk6 V c 2 t) (iblk6 V c 3 t)) (Fin.ext e2.symm) (Fin.ext e3.symm)).trans
    (blk6 V c t _ _ _ (by dsimp only; rw [e0]; omega) (by dsimp only; rw [e0]) e1 _ _)

end Cert.Kernel2Ideal.Feed
-- ==== Proof.Feed.Chain.lean ====
module

public import proofs.«01_k».proof.Proof.Feed.Norm
public import proofs.«01_k».proof.Proof.Feed.Query
public import proofs.«01_k».proof.Proof.Feed.Plain
public import proofs.«01_k».proof.Proof.Feed.Single
public import proofs.«01_k».proof.Proof.Feed.Gated
public import proofs.«01_k».proof.Proof.Feed.Gate
public import proofs.«01_k».proof.Proof.Feed.Compress
public import Idealize.ShloMosaic.Lib.StableHlo.Run

@[expose] public section

set_option maxRecDepth 16384

/-! What each projection call finds in its arrays and leaves in its result. -/

noncomputable section

namespace Cert.Kernel2Ideal.Feed

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg) (c : Dev nD)

/-- Argument 0, the input. -/
abbrev a0 : FVec Ideal S4x4096x4096 .f32 := m ((c : Thread nD τ).loc main_arg0)
/-- Argument 1, the norm's gain. -/
abbrev a1 : FVec Ideal S4096 .f32 := m ((c : Thread nD τ).loc main_arg1)
/-- Argument 2, the input projection. -/
abbrev a2 : FVec Ideal S4096x25648 .f32 := m ((c : Thread nD τ).loc main_arg2)
/-- Argument 3, the places of a window. -/
abbrev a3 : FVec Ideal S2x32x128 .f32 := m ((c : Thread nD τ).loc main_arg3)
/-- Argument 4, the compression's first layer. -/
abbrev a4 : FVec Ideal S2x4096x128 .f32 := m ((c : Thread nD τ).loc main_arg4)
/-- Argument 5, the compression's second layer. -/
abbrev a5 : FVec Ideal S2x128x128 .f32 := m ((c : Thread nD τ).loc main_arg5)
/-- The input, one row a token. -/
def r0 : FVec Ideal S16384x4096 .f32 := shapeCast S16384x4096 (a0 m c) shapeCasts_S4x4096x4096_S16384x4096
/-- The projection transposed. -/
def r1 : FVec Ideal S25648x4096 .f32 := transpose S25648x4096 [1, 0] (a2 m c) transposes_S4096x25648_S25648x4096_1_0
/-- The projection transposed, as the calls read it. -/
def r2 : FVec Ideal S25648x4096 .bf16 := truncf (F := Ideal) .bf16 (r1 m c) bitsLt_bf16_f32
/-- The gates' rows, a band for each branch and head of a group. -/
def r6 : FVec Ideal S12x4x4096 .f32 :=
  shapeCast S12x4x4096 (transpose S3x4x4x4096 [0, 2, 1, 3] (shapeCast S3x4x4x4096 (extractStridedSlice S48x4096 ![5120, 0] (r1 m c) slices_S25648x4096_S48x4096_5120_0) shapeCasts_S48x4096_S3x4x4x4096) transposes_S3x4x4x4096_S3x4x4x4096_0_2_1_3) shapeCasts_S3x4x4x4096_S12x4x4096
/-- The gates' rows, each band padded to eight. -/
def r8 : FVec Ideal S96x4096 .f32 :=
  shapeCast S96x4096 (pad S12x8x4096 ![0, 0, 0] ![0, 4, 0] ![0, 0, 0] (r6 m c) (sitofp (F := Ideal) .f32 (constantI S_ 32 0#32)) pads_S12x4x4096_S12x8x4096_000_040_000 h_S_) shapeCasts_S12x8x4096_S96x4096
/-- The gates' rows, padded to 128. -/
def r10 : FVec Ideal S128x4096 .bf16 :=
  truncf (F := Ideal) .bf16 (pad S128x4096 ![0, 0] ![32, 0] ![0, 0] (r8 m c) (sitofp (F := Ideal) .f32 (constantI S_ 32 0#32)) pads_S96x4096_S128x4096_0320_000 h_S_) bitsLt_bf16_f32
/-- The gain as a row. -/
def r11 : FVec Ideal S1x4096 .f32 := shapeCast S1x4096 (a1 m c) shapeCasts_S4096_S1x4096
/-- What call 0 leaves. -/
def r12 : FVec Ideal S16384x4096 .bf16 := G0 (r0 m c) (r11 m c)
/-- What call 1 leaves. -/
def r13 : FVec Ideal S16384x2048 .bf16 := G1 (r12 m c) (r2 m c)
/-- What call 2 leaves. -/
def r14 : FVec Ideal S16384x3072 .bf16 := G2 (r12 m c) (r2 m c)
/-- What call 3 leaves. -/
def r15 : FVec Ideal S16384x2048 .f32 := G3 (r12 m c) (r2 m c)
/-- What call 4 leaves. -/
def r16 : FVec Ideal S16384x4096 .bf16 := G4 (r12 m c) (r2 m c)
/-- What call 5 leaves. -/
def r17 : FVec Ideal S16384x128 .f32 := G5 (r12 m c) (r10 m c)
/-- Call 3's result, sequence by sequence. -/
def r18 : FVec Ideal S4x4096x2048 .f32 := shapeCast S4x4096x2048 (r15 m c) shapeCasts_S16384x2048_S4x4096x2048
/-- The compression's first layer, as the call reads it. -/
def r19 : FVec Ideal S2x4096x128 .bf16 := truncf (F := Ideal) .bf16 (a4 m c) bitsLt_bf16_f32
/-- The compression's second layer, as the call reads it. -/
def r20 : FVec Ideal S2x128x128 .bf16 := truncf (F := Ideal) .bf16 (a5 m c) bitsLt_bf16_f32
/-- What call 6 leaves. -/
def r21 : FVec Ideal S8x4x256x128 .bf16 := G6 (r18 m c) (a3 m c) (r19 m c) (r20 m c)

/-- The host operations before the first call, as one list of contents. -/
theorem W5_eq : W5 m ρ c = StableHlo.after hostOps0_4 (StableHlo.after hostOps0_3 (StableHlo.after hostOps0_2 (StableHlo.after hostOps0_1 (StableHlo.after hostOps0 (W0 m ρ c))))) := rfl

theorem at0 : (W5 m ρ c (Proc.devRef .tc main_v0) : FVec Ideal S16384x4096 .f32) = r0 m c := by
  rw [W5_eq]
  after_results
  rfl
theorem at2 : (W5 m ρ c (Proc.devRef .tc main_v2) : FVec Ideal S25648x4096 .bf16) = r2 m c := by
  rw [W5_eq]
  after_results
  rfl
theorem at10 : (W5 m ρ c (Proc.devRef .tc main_v10) : FVec Ideal S128x4096 .bf16) = r10 m c := by
  rw [W5_eq]
  after_results
  rfl
theorem at11 : (W5 m ρ c (Proc.devRef .tc main_v11) : FVec Ideal S1x4096 .f32) = r11 m c := by
  rw [W5_eq]
  after_results
  rfl
theorem at12 : (W6 m ρ c (Proc.devRef .tc main_v12) : FVec Ideal S16384x4096 .bf16) = r12 m c := by
  refine (W6_arr m ρ c 2).trans ((final0 (V5 m ρ) c).trans ?_)
  have h0 : V5 m ρ c main_v0 = r0 m c := at0 m ρ c
  have h1 : V5 m ρ c main_v11 = r11 m c := at11 m ρ c
  rw [h0, h1]
  rfl
theorem at13 : (W7 m ρ c (Proc.devRef .tc main_v13) : FVec Ideal S16384x2048 .bf16) = r13 m c := by
  refine (W7_arr m ρ c 2).trans ((final1 (V6 m ρ) c).trans ?_)
  have h0 : V6 m ρ c main_v12 = r12 m c := at12 m ρ c
  have h1 : V6 m ρ c main_v2 = r2 m c := (W6_of m ρ c main_v2 (by decide)).trans (at2 m ρ c)
  rw [h0, h1]
  rfl
theorem at14 : (W8 m ρ c (Proc.devRef .tc main_v14) : FVec Ideal S16384x3072 .bf16) = r14 m c := by
  refine (W8_arr m ρ c 2).trans ((final2 (V7 m ρ) c).trans ?_)
  have h0 : V7 m ρ c main_v12 = r12 m c := (W7_of m ρ c main_v12 (by decide)).trans (at12 m ρ c)
  have h1 : V7 m ρ c main_v2 = r2 m c := (W7_of m ρ c main_v2 (by decide)).trans ((W6_of m ρ c main_v2 (by decide)).trans (at2 m ρ c))
  rw [h0, h1]
  rfl
theorem at15 : (W9 m ρ c (Proc.devRef .tc main_v15) : FVec Ideal S16384x2048 .f32) = r15 m c := by
  refine (W9_arr m ρ c 2).trans ((final3 (V8 m ρ) c).trans ?_)
  have h0 : V8 m ρ c main_v12 = r12 m c := (W8_of m ρ c main_v12 (by decide)).trans ((W7_of m ρ c main_v12 (by decide)).trans (at12 m ρ c))
  have h1 : V8 m ρ c main_v2 = r2 m c := (W8_of m ρ c main_v2 (by decide)).trans ((W7_of m ρ c main_v2 (by decide)).trans ((W6_of m ρ c main_v2 (by decide)).trans (at2 m ρ c)))
  rw [h0, h1]
  rfl
theorem at16 : (W10 m ρ c (Proc.devRef .tc main_v16) : FVec Ideal S16384x4096 .bf16) = r16 m c := by
  refine (W10_arr m ρ c 2).trans ((final4 (V9 m ρ) c).trans ?_)
  have h0 : V9 m ρ c main_v12 = r12 m c := (W9_of m ρ c main_v12 (by decide)).trans ((W8_of m ρ c main_v12 (by decide)).trans ((W7_of m ρ c main_v12 (by decide)).trans (at12 m ρ c)))
  have h1 : V9 m ρ c main_v2 = r2 m c := (W9_of m ρ c main_v2 (by decide)).trans ((W8_of m ρ c main_v2 (by decide)).trans ((W7_of m ρ c main_v2 (by decide)).trans ((W6_of m ρ c main_v2 (by decide)).trans (at2 m ρ c))))
  rw [h0, h1]
  rfl
theorem at17 : (W11 m ρ c (Proc.devRef .tc main_v17) : FVec Ideal S16384x128 .f32) = r17 m c := by
  refine (W11_arr m ρ c 2).trans ((final5 (V10 m ρ) c).trans ?_)
  have h0 : V10 m ρ c main_v12 = r12 m c := (W10_of m ρ c main_v12 (by decide)).trans ((W9_of m ρ c main_v12 (by decide)).trans ((W8_of m ρ c main_v12 (by decide)).trans ((W7_of m ρ c main_v12 (by decide)).trans (at12 m ρ c))))
  have h1 : V10 m ρ c main_v10 = r10 m c := (W10_of m ρ c main_v10 (by decide)).trans ((W9_of m ρ c main_v10 (by decide)).trans ((W8_of m ρ c main_v10 (by decide)).trans ((W7_of m ρ c main_v10 (by decide)).trans ((W6_of m ρ c main_v10 (by decide)).trans (at10 m ρ c)))))
  rw [h0, h1]
  rfl

theorem at18 : (W12 m ρ c (Proc.devRef .tc main_v18) : FVec Ideal S4x4096x2048 .f32) = r18 m c := by
  have h : (W11 m ρ c (Proc.devRef .tc main_v15) : FVec Ideal S16384x2048 .f32) = r15 m c :=
    (W11_of m ρ c main_v15 (by decide)).trans ((W10_of m ρ c main_v15 (by decide)).trans (at15 m ρ c))
  show StableHlo.after hostOps6 (W11 m ρ c) _ = _
  after_results
  exact congrArg (fun u : FVec Ideal S16384x2048 .f32 => shapeCast S4x4096x2048 u shapeCasts_S16384x2048_S4x4096x2048) h
theorem at19 : (W12 m ρ c (Proc.devRef .tc main_v19) : FVec Ideal S2x4096x128 .bf16) = r19 m c := by
  have h : (W11 m ρ c (Proc.devRef .tc main_arg4) : FVec Ideal S2x4096x128 .f32) = a4 m c := W11_args m ρ c main_arg4 (by decide)
  show StableHlo.after hostOps6 (W11 m ρ c) _ = _
  after_results
  exact congrArg (fun u : FVec Ideal S2x4096x128 .f32 => truncf (F := Ideal) .bf16 u bitsLt_bf16_f32) h
theorem at20 : (W12 m ρ c (Proc.devRef .tc main_v20) : FVec Ideal S2x128x128 .bf16) = r20 m c := by
  have h : (W11 m ρ c (Proc.devRef .tc main_arg5) : FVec Ideal S2x128x128 .f32) = a5 m c := W11_args m ρ c main_arg5 (by decide)
  show StableHlo.after hostOps6 (W11 m ρ c) _ = _
  after_results
  exact congrArg (fun u : FVec Ideal S2x128x128 .f32 => truncf (F := Ideal) .bf16 u bitsLt_bf16_f32) h
theorem at21 : (W13 m ρ c (Proc.devRef .tc main_v21) : FVec Ideal S8x4x256x128 .bf16) = r21 m c := by
  refine (W13_arr m ρ c 4).trans ((final6 (V12 m ρ) c).trans ?_)
  have h0 : V12 m ρ c main_v18 = r18 m c := at18 m ρ c
  have h1 : V12 m ρ c main_arg3 = a3 m c := W12_args m ρ c main_arg3 (by decide)
  have h2 : V12 m ρ c main_v19 = r19 m c := at19 m ρ c
  have h3 : V12 m ρ c main_v20 = r20 m c := at20 m ρ c
  rw [h0, h1, h2, h3]
  rfl

/-- Call 1's result at the end. -/
theorem end13 : (W13 m ρ c (Proc.devRef .tc main_v13) : FVec Ideal S16384x2048 .bf16) = r13 m c := (W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans (at13 m ρ c))))))
/-- Call 2's result at the end. -/
theorem end14 : (W13 m ρ c (Proc.devRef .tc main_v14) : FVec Ideal S16384x3072 .bf16) = r14 m c := (W13_of m ρ c main_v14 (by decide)).trans ((W12_of m ρ c main_v14 (by decide)).trans ((W11_of m ρ c main_v14 (by decide)).trans ((W10_of m ρ c main_v14 (by decide)).trans ((W9_of m ρ c main_v14 (by decide)).trans (at14 m ρ c)))))
/-- Call 3's result at the end. -/
theorem end15 : (W13 m ρ c (Proc.devRef .tc main_v15) : FVec Ideal S16384x2048 .f32) = r15 m c := (W13_of m ρ c main_v15 (by decide)).trans ((W12_of m ρ c main_v15 (by decide)).trans ((W11_of m ρ c main_v15 (by decide)).trans ((W10_of m ρ c main_v15 (by decide)).trans (at15 m ρ c))))
/-- Call 4's result at the end. -/
theorem end16 : (W13 m ρ c (Proc.devRef .tc main_v16) : FVec Ideal S16384x4096 .bf16) = r16 m c := (W13_of m ρ c main_v16 (by decide)).trans ((W12_of m ρ c main_v16 (by decide)).trans ((W11_of m ρ c main_v16 (by decide)).trans (at16 m ρ c)))
/-- Call 5's result at the end. -/
theorem end17 : (W13 m ρ c (Proc.devRef .tc main_v17) : FVec Ideal S16384x128 .f32) = r17 m c := (W13_of m ρ c main_v17 (by decide)).trans ((W12_of m ρ c main_v17 (by decide)).trans (at17 m ρ c))

end Cert.Kernel2Ideal.Feed

end
-- ==== Proof.Feed.Run.lean ====
module

public import proofs.«01_k».proof.Proof.Gen.Kernel2Ideal.Frame
public import proofs.«01_k».proof.Proof.Feed.Chain

@[expose] public section

set_option maxRecDepth 16384

/-! The projections' run: every array ends at the last boundary's contents, the results among them. -/

noncomputable section

namespace Cert.Kernel2Ideal.Feed

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every execution ends with each array at the contents of the last boundary, and every counter at zero. -/
theorem run_all (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- Every execution ends with the chain's values in the results and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = r13 m c
      ∧ r.2.mem ((c.tc : Thread nD τ).loc main_v14) = r14 m c
      ∧ r.2.mem ((c.tc : Thread nD τ).loc main_v15) = r15 m c
      ∧ r.2.mem ((c.tc : Thread nD τ).loc main_v16) = r16 m c
      ∧ r.2.mem ((c.tc : Thread nD τ).loc main_v17) = r17 m c
      ∧ r.2.mem ((c.tc : Thread nD τ).loc main_v21) = r21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h.1 c _ (mem_uc main_v13 (by decide))).trans (end13 m ρ c),
     (h.1 c _ (mem_uc main_v14 (by decide))).trans (end14 m ρ c),
     (h.1 c _ (mem_uc main_v15 (by decide))).trans (end15 m ρ c),
     (h.1 c _ (mem_uc main_v16 (by decide))).trans (end16 m ρ c),
     (h.1 c _ (mem_uc main_v17 (by decide))).trans (end17 m ρ c),
     (h.1 c _ (mem_uc main_v21 (by decide))).trans (at21 m ρ c),
     (h.1 c _ (mem_uc main_arg0 (by decide))).trans (W13_main_arg0 m ρ c),
     (h.1 c _ (mem_uc main_arg1 (by decide))).trans (W13_main_arg1 m ρ c),
     (h.1 c _ (mem_uc main_arg2 (by decide))).trans (W13_main_arg2 m ρ c),
     (h.1 c _ (mem_uc main_arg3 (by decide))).trans (W13_main_arg3 m ρ c),
     (h.1 c _ (mem_uc main_arg4 (by decide))).trans (W13_main_arg4 m ρ c),
     (h.1 c _ (mem_uc main_arg5 (by decide))).trans (W13_main_arg5 m ρ c)⟩) (run_all m ρ)

end Cert.Kernel2Ideal.Feed

end
-- ==== Proof.Feed.Spec.lean ====
module

public import proofs.«01_k».proof.Proof.Spec

@[expose] public section

/-! The projections that feed the branches, token by token: what the second kernel and the second reference are both shown
to compute. -/

noncomputable section

namespace Cert.Feed

open Idealize.ShloMosaic

/-- The arguments, as functions of their coordinates. -/
structure Args where
  /-- The input. -/
  x : Fin 4 → Fin 4096 → Fin 4096 → EReal
  /-- The gain of the norm. -/
  g : Fin 4096 → EReal
  /-- The input projection. -/
  w : Fin 4096 → Fin 25648 → EReal

variable (A : Args) (b : Fin 4) (s : Fin 4096)

/-- The normed input. -/
def h (d : Fin 4096) : EReal := Cert.Spec.rms (A.x b s) A.g d

/-- One column of the input projection. -/
def p (j : Fin 25648) : EReal := Cert.Spec.dot (h A b s) (fun k => A.w k j)

/-- The projection's column behind a lane of the gates: lanes are eight to a branch and head of a group, one of them for
each of the four groups, where the projection has its columns by branch, group and head. -/
def lane (l : Fin 128) (_ : l.val < 96) (_ : l.val % 8 < 4) : Fin 25648 :=
  ⟨5120 + (l.val / 32 * 16 + l.val % 8 * 4 + l.val / 8 % 4), by omega⟩

/-- The logistic function at zero. -/
theorem sigm_zero : Cert.Spec.sigm 0 = Ideal.ofBits .f32 0x3F000000#32 := by
  have h : Ideal.ofBits .f32 0x3F000000#32 = (((1 : ℝ) / 2 : ℝ) : EReal) := by
    simp [Ideal.ofBits, Ideal.ieee, -EReal.coe_mul]
    norm_num
  have e : Ideal.exp 0 = 1 := by
    show ((Real.exp 0 : ℝ) : EReal) = 1
    rw [Real.exp_zero]
    rfl
  have two : (1 : EReal) + 1 = ((2 : ℝ) : EReal) := by
    rw [show (1 : EReal) = ((1 : ℝ) : EReal) from rfl, ← EReal.coe_add]
    norm_num
  have ne : ((2 : ℝ) : EReal) ≠ 0 := by
    rw [show (0 : EReal) = ((0 : ℝ) : EReal) from rfl, Ne, EReal.coe_eq_coe_iff]
    norm_num
  rw [h, Cert.Spec.sigm, neg_zero, e, two]
  unfold Ideal.div
  rw [if_neg ne, one_mul, ← EReal.coe_inv]
  norm_num

/-- A lane of the gates: the logistic function of its column, a half where there is none. -/
def gate (l : Fin 128) : EReal :=
  if h96 : l.val < 96 then if h4 : l.val % 8 < 4 then Cert.Spec.sigm (p A b s (lane l h96 h4)) else Ideal.ofBits .f32 0x3F000000#32
  else Ideal.ofBits .f32 0x3F000000#32

/-- A row's sequence. -/
abbrev bo (R : Fin 16384) : Fin 4 := ⟨R.val / 4096, by omega⟩
/-- A row's place in its sequence. -/
abbrev so (R : Fin 16384) : Fin 4096 := ⟨R.val % 4096, by omega⟩

end Cert.Feed

end
-- ==== Proof.Feed.Windows.lean ====
module

public import proofs.«01_k».proof.Proof.Feed.Spec

@[expose] public section

/-! The compression of the keys and values, window by window: what the second kernel and the second reference are both
shown to compute. A window is 32 tokens, a new one every 16. -/

noncomputable section

namespace Cert.Feed

open Idealize.ShloMosaic

/-- The compression's arguments, as functions of their coordinates: first the keys', then the values'. -/
structure CmpArgs where
  /-- What is added at each place of a window. -/
  pos : Fin 2 → Fin 32 → Fin 128 → EReal
  /-- The first layer, over a window's places and channels. -/
  w1 : Fin 2 → Fin 4096 → Fin 128 → EReal
  /-- The second layer. -/
  w2 : Fin 2 → Fin 128 → Fin 128 → EReal

variable (A : Args) (C : CmpArgs) (r : Fin 2) (b g : Fin 4)

/-- Entry `k` of window `n`: place `k / 128`, channel `k % 128` of the group. -/
def entryOf (n : Fin 255) (k : Fin 4096) : EReal :=
  p A b ⟨16 * n.val + k.val / 128, by omega⟩ ⟨2048 + ((r.val * 4 + g.val) * 128 + k.val % 128), by omega⟩
    + C.pos r ⟨k.val / 128, by omega⟩ ⟨k.val % 128, by omega⟩

/-- The hidden layer. -/
def hiddenOf (n : Fin 255) (e : Fin 128) : EReal := Cert.Spec.dot (entryOf A C r b g n) (fun k => C.w1 r k e)

/-- A window's compressed key or value; there is none at the last place. -/
def windowOf (n : Fin 256) (d : Fin 128) : EReal :=
  if h : n.val < 255 then Cert.Spec.dot (fun e => Cert.Spec.silu (hiddenOf A C r b g ⟨n.val, h⟩ e)) (fun e => C.w2 r e d) else 0

/-- A sum over a window's entries, place by place. -/
theorem sum_places (f : Fin 4096 → EReal) :
    ∑ k, f k = ∑ q : Fin 32, ∑ d : Fin 128, f ⟨128 * q.val + d.val, by omega⟩ := by
  rw [← Fintype.sum_prod_type', ← (finProdFinEquiv (m := 32) (n := 128)).sum_comp]
  exact Finset.sum_congr rfl fun x _ => congrArg f (Fin.ext (Nat.add_comm _ _))

/-- A sum over a window's places, its two halves apart. -/
theorem sum_halves (f : Fin 32 → EReal) :
    ∑ q, f q = (∑ l : Fin 16, f ⟨l.val, by omega⟩) + ∑ l : Fin 16, f ⟨16 + l.val, by omega⟩ :=
  Fin.sum_univ_add (a := 16) (b := 16) f

end Cert.Feed

end
-- ==== Proof.Feed.Value.lean ====
module

public import proofs.«01_k».proof.Proof.Feed.Chain
public import proofs.«01_k».proof.Proof.Feed.Windows
public import Idealize.ShloMosaic.Lib.Pointwise

@[expose] public section

set_option maxRecDepth 16384

/-! The projections' results, token by token. -/

noncomputable section

namespace Cert.Kernel2Ideal.Feed

open Cert.Kernel2Ideal Cert.Kernel2Ideal.Gen Cert.Feed
open Idealize.ShloMosaic Idealize.ShloMosaic.TcCoe Idealize.SL.Sem

variable (m : (ℓ : Loc nD τ sig) → Buf (Elt Ideal) ℓ) (c : Dev nD)

/-- The arguments by their coordinates. -/
def args : Cert.Feed.Args where
  x b s k := a0 m c (ix3 b s k)
  g k := a1 m c (ix1 k)
  w k j := a2 m c (ix2 k j)

theorem r0_at (R : Fin 16384) (k : Fin 4096) : r0 m c (ix2 R k) = (args m c).x (bo R) (so R) k := by
  pointwise [r0, args]

theorem r1_at (j : Fin 25648) (k : Fin 4096) : r1 m c (ix2 j k) = (args m c).w k j := by
  pointwise [r1, args]

theorem r2_at (j : Fin 25648) (k : Fin 4096) : r2 m c (ix2 j k) = (args m c).w k j := by
  pointwise [r2, r1, args]

theorem r11_at (k : Fin 4096) : r11 m c (ix2 0 k) = (args m c).g k := by
  pointwise [r11, args]

theorem r12_at (R : Fin 16384) (d : Fin 4096) : r12 m c (ix2 R d) = h (args m c) (bo R) (so R) d := by
  show Cert.Spec.rms (fun k => r0 m c (ix2 R k)) (fun k => r11 m c (ix2 0 k)) d = _
  rw [h, funext (r0_at m c R), funext (r11_at m c)]

/-- A column of the projection of a row. -/
theorem p_at (R : Fin 16384) (j : Fin 25648) :
    Cert.Spec.dot (fun k : Fin 4096 => r12 m c (ix2 R k)) (fun k => r2 m c (ix2 j k)) = p (args m c) (bo R) (so R) j :=
  Cert.Spec.dot_congr (r12_at m c R) (r2_at m c j)

theorem r13_at (R : Fin 16384) (j : Fin 2048) :
    r13 m c (ix2 R j) = p (args m c) (bo R) (so R) (col1 j) * Ideal.ofBits .f32 0x3E0293EE#32 :=
  congrArg (· * Ideal.ofBits .f32 0x3E0293EE#32) (p_at m c R _)
theorem r14_at (R : Fin 16384) (j : Fin 3072) : r14 m c (ix2 R j) = p (args m c) (bo R) (so R) (col2 j) := p_at m c R _
theorem r15_at (R : Fin 16384) (j : Fin 2048) : r15 m c (ix2 R j) = p (args m c) (bo R) (so R) (col3 j) := p_at m c R _
theorem r16_at (R : Fin 16384) (j : Fin 4096) : r16 m c (ix2 R j) = Cert.Spec.silu (p (args m c) (bo R) (so R) (col4 j)) :=
  congrArg Cert.Spec.silu (p_at m c R _)

/-- A row of the gates' weights. -/
theorem r6_at (e : Fin 12) (g : Fin 4) (k : Fin 4096) :
    r6 m c (ix3 e g k) = (args m c).w k ⟨5120 + (e.val / 4 * 16 + g.val * 4 + e.val % 4), by omega⟩ := by
  pointwise [r6, r1, args]

/-- The integer zero as a float. -/
theorem of_zero : FloatOps.sitofp (F := Ideal) .f32 0#32 = (0 : EReal) := by
  show ((((0#32 : BitVec 32).toInt : ℤ) : ℝ) : EReal) = 0
  norm_num

theorem r8_at (l : Fin 96) (k : Fin 4096) :
    r8 m c (ix2 l k) = if h4 : l.val % 8 < 4 then r6 m c (ix3 ⟨l.val / 8, by omega⟩ ⟨l.val % 8, h4⟩ k) else 0 := by
  have e : r8 m c (ix2 l k) = if h : l.val / 8 < 12 ∧ l.val % 8 < 4 then r6 m c (ix3 ⟨l.val / 8, h.1⟩ ⟨l.val % 8, h.2⟩ k)
      else FloatOps.sitofp (F := Ideal) .f32 0#32 := by
    pointwise [r8]
  rw [e, of_zero]
  by_cases h4 : l.val % 8 < 4
  · rw [dif_pos h4, dif_pos ⟨by omega, h4⟩]
  · rw [dif_neg h4, dif_neg fun h => h4 h.2]

theorem r10_at (l : Fin 128) (k : Fin 4096) :
    r10 m c (ix2 l k) = if h96 : l.val < 96 then r8 m c (ix2 ⟨l.val, h96⟩ k) else 0 := by
  rw [← of_zero]
  pointwise [r10]

/-- A column of zeros. -/
theorem dot_zero {n : ℕ} (a b : Fin n → EReal) (hb : ∀ k, b k = 0) : Cert.Spec.dot a b = 0 := by
  simp only [Cert.Spec.dot, hb, mul_zero, Finset.sum_const_zero]

theorem r17_at (R : Fin 16384) (l : Fin 128) : r17 m c (ix2 R l) = gate (args m c) (bo R) (so R) l := by
  show Cert.Spec.sigm (Cert.Spec.dot (fun k : Fin 4096 => r12 m c (ix2 R k)) (fun k => r10 m c (ix2 l k))) = _
  unfold gate
  split
  · rename_i h96
    split
    · rename_i h4
      refine congrArg Cert.Spec.sigm (Cert.Spec.dot_congr (r12_at m c R) fun k => ?_)
      rw [r10_at, dif_pos h96, r8_at, dif_pos h4, r6_at]
      exact congrArg _ (Fin.ext (by simp only [lane]; omega))
    · rename_i h4
      rw [dot_zero _ _ fun k => by rw [r10_at, dif_pos h96, r8_at, dif_neg h4], sigm_zero]
  · rename_i h96
    rw [dot_zero _ _ fun k => by rw [r10_at, dif_neg h96], sigm_zero]

/-- The compression's arguments by their coordinates. -/
def cargs : Cert.Feed.CmpArgs where
  pos r q d := a3 m c (ix3 r q d)
  w1 r k e := a4 m c (ix3 r k e)
  w2 r e d := a5 m c (ix3 r e d)

theorem r18_at (b : Fin 4) (s : Fin 4096) (j : Fin 2048) : r18 m c (ix3 b s j) = p (args m c) b s (col3 j) := by
  have hR : b.val * 4096 + s.val < 16384 := by omega
  have e : r18 m c (ix3 b s j) = r15 m c (ix2 ⟨b.val * 4096 + s.val, hR⟩ j) := by pointwise [r18]
  have e0 : bo ⟨b.val * 4096 + s.val, hR⟩ = b := Fin.ext (by dsimp only; omega)
  have e1 : so ⟨b.val * 4096 + s.val, hR⟩ = s := Fin.ext (by dsimp only; omega)
  rw [e, r15_at, e0, e1]

/-- What a place of a window adds to the hidden layer. -/
theorem part6_at (r : Fin 2) (b g : Fin 4) (q : Fin 32) (n : Fin 255) (n' : Fin 256) (hn : 16 * n'.val + q.val % 16 = 16 * n.val + q.val) (e : Fin 128) :
    part6 (r18 m c) (a3 m c) (r19 m c) r b g q n' e
      = ∑ d : Fin 128, entryOf (args m c) (cargs m c) r b g n ⟨128 * q.val + d.val, by omega⟩ * (cargs m c).w1 r ⟨128 * q.val + d.val, by omega⟩ e := by
  refine Cert.Spec.dot_congr (b' := fun d => (cargs m c).w1 r ⟨128 * q.val + d.val, by omega⟩ e) (fun d => congrArg₂ (fun a b : EReal => a + b) ?_ ?_) fun d => ?_
  · refine (r18_at m c b _ _).trans (congrArg₂ (p (args m c) b) (Fin.ext ?_) (Fin.ext ?_))
    · dsimp only
      omega
    · dsimp only [col3]
      split <;> omega
  · exact congrArg₂ (fun q d => a3 m c (ix3 r q d)) (Fin.ext (by dsimp only; omega)) (Fin.ext (by dsimp only; omega))
  · rfl

theorem r21_at (R : Fin 8) (g : Fin 4) (n : Fin 256) (d : Fin 128) :
    r21 m c (ix4 R g n d) = windowOf (args m c) (cargs m c) ⟨R.val / 4, by omega⟩ ⟨R.val % 4, by omega⟩ g n d := by
  show cmp6 (r18 m c) (a3 m c) (r19 m c) (r20 m c) ⟨R.val / 4, by omega⟩ ⟨R.val % 4, by omega⟩ g n d = _
  generalize (⟨R.val / 4, by omega⟩ : Fin 2) = r
  generalize (⟨R.val % 4, by omega⟩ : Fin 4) = b
  unfold cmp6 windowOf
  by_cases h : n.val < 255
  · rw [if_pos h, dif_pos h]
    refine Cert.Spec.dot_congr (fun e => congrArg Cert.Spec.silu ?_) fun e => rfl
    unfold hiddenOf Cert.Spec.dot
    rw [sum_places, sum_halves]
    refine congrArg₂ (fun a b : EReal => a + b) (Finset.sum_congr rfl fun l _ => ?_) (Finset.sum_congr rfl fun l _ => ?_)
    · exact part6_at m c r b g _ ⟨n.val, h⟩ _ (by dsimp only; omega) e
    · exact part6_at m c r b g _ ⟨n.val, h⟩ _ (by dsimp only; omega) e
  · rw [if_neg h, dif_neg h]

end Cert.Kernel2Ideal.Feed

end
-- ==== Proof.FeedRef.Result.lean ====
module

public import proofs.«01_k».proof.Proof.Gen.Reference2Ideal.Run
public import proofs.«01_k».proof.Proof.Feed.Spec
public import Idealize.ShloMosaic.Lib.Pointwise

@[expose] public section

set_option maxRecDepth 16384

/-! The reference's projections, token by token, and its results in the layout of the calls' arrays. -/

noncomputable section

namespace Cert.Reference2Ideal.Ref

open Cert.Reference2Ideal Cert.Reference2Ideal.Gen Cert.Reference2Ideal.Value Cert.Feed
open Idealize.ShloMosaic Idealize.ShloMosaic.TcCoe Idealize.SL.Sem

variable (m : (ℓ : Loc nD τ sig) → Buf (Elt Ideal) ℓ) (c : Dev nD)

/-- Argument 0, the input. -/
abbrev a0 : FVec Ideal S4x4096x4096 .f32 := m ((c.tc : Thread nD τ).loc main_arg0)
/-- Argument 1, the norm's gain. -/
abbrev a1 : FVec Ideal S4096 .f32 := m ((c.tc : Thread nD τ).loc main_arg1)
/-- Argument 2, the input projection. -/
abbrev a2 : FVec Ideal S4096x25648 .f32 := m ((c.tc : Thread nD τ).loc main_arg2)

/-- Argument 3, the places of a window. -/
abbrev a3 : FVec Ideal S2x32x128 .f32 := m ((c.tc : Thread nD τ).loc main_arg3)
/-- Argument 4, the compression's first layer. -/
abbrev a4 : FVec Ideal S2x4096x128 .f32 := m ((c.tc : Thread nD τ).loc main_arg4)
/-- Argument 5, the compression's second layer. -/
abbrev a5 : FVec Ideal S2x128x128 .f32 := m ((c.tc : Thread nD τ).loc main_arg5)

/-- The arguments by their coordinates. -/
def args : Cert.Feed.Args where
  x b s k := a0 m c (ix3 b s k)
  g k := a1 m c (ix1 k)
  w k j := a2 m c (ix2 k j)

/-- The normed input. -/
def v12 : FVec Ideal S4x4096x4096 .f32 :=
  mulf (mulf (a0 m c) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (a0 m c) (a0 m c)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (a1 m c)))

theorem v12_at (b : Fin 4) (s d : Fin 4096) : v12 m c (ix3 b s d) = h (args m c) b s d := by
  pointwise [v12, h, Cert.Spec.rms, args]

/-- A column of the projection of a token. -/
theorem p_of (b : Fin 4) (s : Fin 4096) (j : Fin 25648) (f : Fin 4096 → EReal) (hf : ∀ k, f k = a2 m c (ix2 k j)) :
    Cert.Spec.dot (fun k => v12 m c (ix3 b s k)) f = p (args m c) b s j :=
  Cert.Spec.dot_congr (v12_at m c b s) hf

/-- The queries. -/
def v14 : FVec Ideal S4x4096x2048 .f32 :=
  Host.dotGeneral dot_S4x4096x4096_S4096x2048_S4x4096x2048_2_0_01_1_n_n none (v12 m c) (extractStridedSlice S4096x2048 ![0, 0] (a2 m c) slices_S4096x25648_S4096x2048_0_0)

theorem v14_at (b : Fin 4) (s : Fin 4096) (j : Fin 2048) :
    v14 m c (ix3 b s j) = p (args m c) b s ⟨0 + j.val, by omega⟩ := by
  rw [← p_of m c b s _ _ fun _ => rfl]
  pointwise [v14, Cert.Spec.dot]

/-- The keys and values. -/
def v16 : FVec Ideal S4x4096x3072 .f32 :=
  Host.dotGeneral dot_S4x4096x4096_S4096x3072_S4x4096x3072_2_0_01_1_n_n none (v12 m c) (extractStridedSlice S4096x3072 ![0, 2048] (a2 m c) slices_S4096x25648_S4096x3072_0_2048)

theorem v16_at (b : Fin 4) (s : Fin 4096) (j : Fin 3072) :
    v16 m c (ix3 b s j) = p (args m c) b s ⟨2048 + j.val, by omega⟩ := by
  rw [← p_of m c b s _ _ fun _ => rfl]
  pointwise [v16, Cert.Spec.dot]

/-- The gates' columns. -/
def v18 : FVec Ideal S4x4096x48 .f32 :=
  Host.dotGeneral dot_S4x4096x4096_S4096x48_S4x4096x48_2_0_01_1_n_n none (v12 m c) (extractStridedSlice S4096x48 ![0, 5120] (a2 m c) slices_S4096x25648_S4096x48_0_5120)

theorem v18_at (b : Fin 4) (s : Fin 4096) (j : Fin 48) :
    v18 m c (ix3 b s j) = p (args m c) b s ⟨5120 + j.val, by omega⟩ := by
  rw [← p_of m c b s _ _ fun _ => rfl]
  pointwise [v18, Cert.Spec.dot]

/-- The attention branch's outer gate. -/
def v20 : FVec Ideal S4x4096x2048 .f32 :=
  Host.dotGeneral dot_S4x4096x4096_S4096x2048_S4x4096x2048_2_0_01_1_n_n none (v12 m c) (extractStridedSlice S4096x2048 ![0, 5168] (a2 m c) slices_S4096x25648_S4096x2048_0_5168)

theorem v20_at (b : Fin 4) (s : Fin 4096) (j : Fin 2048) :
    v20 m c (ix3 b s j) = p (args m c) b s ⟨5168 + j.val, by omega⟩ := by
  rw [← p_of m c b s _ _ fun _ => rfl]
  pointwise [v20, Cert.Spec.dot]

/-- The convolution branch's outer gate. -/
def v22 : FVec Ideal S4x4096x1024 .f32 :=
  Host.dotGeneral dot_S4x4096x4096_S4096x1024_S4x4096x1024_2_0_01_1_n_n none (v12 m c) (extractStridedSlice S4096x1024 ![0, 9264] (a2 m c) slices_S4096x25648_S4096x1024_0_9264)

theorem v22_at (b : Fin 4) (s : Fin 4096) (j : Fin 1024) :
    v22 m c (ix3 b s j) = p (args m c) b s ⟨9264 + j.val, by omega⟩ := by
  rw [← p_of m c b s _ _ fun _ => rfl]
  pointwise [v22, Cert.Spec.dot]

/-- The spatial branch's halves. -/
def v24 : FVec Ideal S4x4096x2048 .f32 :=
  Host.dotGeneral dot_S4x4096x4096_S4096x2048_S4x4096x2048_2_0_01_1_n_n none (v12 m c) (extractStridedSlice S4096x2048 ![0, 10288] (a2 m c) slices_S4096x25648_S4096x2048_0_10288)

theorem v24_at (b : Fin 4) (s : Fin 4096) (j : Fin 2048) :
    v24 m c (ix3 b s j) = p (args m c) b s ⟨10288 + j.val, by omega⟩ := by
  rw [← p_of m c b s _ _ fun _ => rfl]
  pointwise [v24, Cert.Spec.dot]

/-- The spatial branch's outer gate. -/
def v26 : FVec Ideal S4x4096x1024 .f32 :=
  Host.dotGeneral dot_S4x4096x4096_S4096x1024_S4x4096x1024_2_0_01_1_n_n none (v12 m c) (extractStridedSlice S4096x1024 ![0, 12336] (a2 m c) slices_S4096x25648_S4096x1024_0_12336)

theorem v26_at (b : Fin 4) (s : Fin 4096) (j : Fin 1024) :
    v26 m c (ix3 b s j) = p (args m c) b s ⟨12336 + j.val, by omega⟩ := by
  rw [← p_of m c b s _ _ fun _ => rfl]
  pointwise [v26, Cert.Spec.dot]

/-- The queries, scaled. -/
def v116 : FVec Ideal S16384x2048 .bf16 :=
  truncf .bf16 (shapeCast _ (mulf (v14 m c) (broadcastInDim S4x4096x2048 ![] bcast_S_S4x4096x2048 (constant S_ .f32 0x3E0293EE#32))) shapeCasts_S4x4096x2048_S16384x2048) bitsLt_bf16_f32

/-- The keys and values, and the first half of the spatial branch. -/
def v119 : FVec Ideal S16384x3072 .bf16 :=
  truncf .bf16 (shapeCast _ (concatenate S4x4096x3072 2 [⟨S4x4096x2048, (extractStridedSlice S4x4096x2048 ![0, 0, 1024] (v16 m c) slices_S4x4096x3072_S4x4096x2048_0_0_1024)⟩, ⟨S4x4096x1024, (extractStridedSlice S4x4096x1024 ![0, 0, 0] (v24 m c) slices_S4x4096x2048_S4x4096x1024_0_0_0)⟩] concatenates_S4x4096x2048_S4x4096x1024_S4x4096x3072_d2) shapeCasts_S4x4096x3072_S16384x3072) bitsLt_bf16_f32

/-- The keys and values of the compression, and the second half of the spatial branch. -/
def v121 : FVec Ideal S16384x2048 .f32 :=
  shapeCast _ (concatenate S4x4096x2048 2 [⟨S4x4096x1024, (extractStridedSlice S4x4096x1024 ![0, 0, 0] (v16 m c) slices_S4x4096x3072_S4x4096x1024_0_0_0)⟩, ⟨S4x4096x1024, (extractStridedSlice S4x4096x1024 ![0, 0, 1024] (v24 m c) slices_S4x4096x2048_S4x4096x1024_0_0_1024)⟩] concatenates_S4x4096x1024_S4x4096x1024_S4x4096x2048_d2) shapeCasts_S4x4096x2048_S16384x2048

/-- The outer gates of the three branches, one after the other. -/
def v31 : FVec Ideal S4x4096x4096 .f32 :=
  concatenate S4x4096x4096 2 [⟨S4x4096x2048, v20 m c⟩, ⟨S4x4096x1024, v22 m c⟩, ⟨S4x4096x1024, v26 m c⟩] concatenates_S4x4096x2048_S4x4096x1024_S4x4096x1024_S4x4096x4096_d2

/-- The outer gates of the three branches, through the SiLU. -/
def v124 : FVec Ideal S16384x4096 .bf16 :=
  truncf .bf16 (shapeCast _ (mulf (v31 m c) (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (v31 m c)))))) shapeCasts_S4x4096x4096_S16384x4096) bitsLt_bf16_f32

/-- The gates' columns, through the logistic function. -/
def v38 : FVec Ideal S16384x48 .f32 :=
  Host.divf (broadcastInDim S16384x48 ![] bcast_S_S16384x48 (constant S_ .f32 0x3F800000#32)) (addf (broadcastInDim S16384x48 ![] bcast_S_S16384x48 (constant S_ .f32 0x3F800000#32)) (Host.exp (Host.negf (shapeCast _ (v18 m c) shapeCasts_S4x4096x48_S16384x48))))

/-- The gates, in bands of eight lanes. -/
def v42 : FVec Ideal S16384x96 .f32 :=
  shapeCast _ (pad S16384x3x4x8 ![0, 0, 0, 0] ![0, 0, 0, 4] ![0, 0, 0, 0] (transpose S16384x3x4x4 [0, 1, 3, 2] (shapeCast _ (v38 m c) shapeCasts_S16384x48_S16384x3x4x4) transposes_S16384x3x4x4_S16384x3x4x4_0_1_3_2) (id (constant S_ .f32 0x3F000000#32)) pads_S16384x3x4x4_S16384x3x4x8_000_000_000_040 h_S_) shapeCasts_S16384x3x4x8_S16384x96

/-- The gates of the attention branches, a lane each. -/
def v43 : FVec Ideal S16384x128 .f32 :=
  pad S16384x128 ![0, 0] ![0, 32] ![0, 0] (v42 m c) (id (constant S_ .f32 0x3F000000#32)) pads_S16384x96_S16384x128_000_0320 h_S_

theorem v124_eq : res_main_v124 m c = v124 m c := rfl

theorem v116_at (R : Fin 16384) (j : Fin 2048) :
    v116 m c (ix2 R j) = p (args m c) (bo R) (so R) ⟨j.val, by omega⟩ * Ideal.ofBits .f32 0x3E0293EE#32 := by
  have e : v116 m c (ix2 R j) = v14 m c (ix3 (bo R) (so R) j) * Ideal.ofBits .f32 0x3E0293EE#32 := by pointwise [v116]
  rw [e, v14_at]
  exact congrArg (fun q => p (args m c) (bo R) (so R) q * Ideal.ofBits .f32 0x3E0293EE#32) (Fin.ext (by simp))

theorem v119_at (R : Fin 16384) (j : Fin 3072) :
    v119 m c (ix2 R j) = p (args m c) (bo R) (so R) ⟨if j.val < 2048 then 3072 + j.val else 8240 + j.val, by split <;> omega⟩ := by
  have e : v119 m c (ix2 R j) = if h : j.val < 2048 then v16 m c (ix3 (bo R) (so R) ⟨1024 + j.val, by omega⟩)
      else v24 m c (ix3 (bo R) (so R) ⟨j.val - 2048, by omega⟩) := by pointwise [v119]
  rw [e]
  split
  · rw [v16_at]
    exact congrArg _ (Fin.ext (by dsimp only; omega))
  · rw [v24_at]
    exact congrArg _ (Fin.ext (by dsimp only; omega))

theorem v121_at (R : Fin 16384) (j : Fin 2048) :
    v121 m c (ix2 R j) = p (args m c) (bo R) (so R) ⟨if j.val < 1024 then 2048 + j.val else 10288 + j.val, by split <;> omega⟩ := by
  have e : v121 m c (ix2 R j) = if h : j.val < 1024 then v16 m c (ix3 (bo R) (so R) ⟨j.val, by omega⟩)
      else v24 m c (ix3 (bo R) (so R) ⟨1024 + (j.val - 1024), by omega⟩) := by pointwise [v121]
  rw [e]
  split
  · rw [v16_at]
  · rw [v24_at]
    exact congrArg _ (Fin.ext (by dsimp only; omega))

theorem v31_at (b : Fin 4) (s j : Fin 4096) :
    v31 m c (ix3 b s j) = p (args m c) b s ⟨if j.val < 2048 then 5168 + j.val else if j.val < 3072 then 7216 + j.val else 9264 + j.val, by split_ifs <;> omega⟩ := by
  have e : v31 m c (ix3 b s j) = if h : j.val < 2048 then v20 m c (ix3 b s ⟨j.val, h⟩)
      else if h' : j.val - 2048 < 1024 then v22 m c (ix3 b s ⟨j.val - 2048, h'⟩)
      else v26 m c (ix3 b s ⟨j.val - 2048 - 1024, by omega⟩) := by pointwise [v31]
  rw [e]
  split
  · rw [v20_at]
  · split
    · rw [v22_at]
      exact congrArg _ (Fin.ext (by dsimp only; split_ifs <;> omega))
    · rw [v26_at]
      exact congrArg _ (Fin.ext (by dsimp only; split_ifs <;> omega))

theorem v124_at (R : Fin 16384) (j : Fin 4096) :
    v124 m c (ix2 R j) = Cert.Spec.silu (p (args m c) (bo R) (so R) ⟨if j.val < 2048 then 5168 + j.val else if j.val < 3072 then 7216 + j.val else 9264 + j.val, by split_ifs <;> omega⟩) := by
  rw [← v31_at]
  pointwise [v124, Cert.Spec.silu, Cert.Spec.sigm]

theorem v38_at (R : Fin 16384) (j : Fin 48) :
    v38 m c (ix2 R j) = Cert.Spec.sigm (p (args m c) (bo R) (so R) ⟨5120 + j.val, by omega⟩) := by
  rw [← v18_at]
  pointwise [v38, Cert.Spec.sigm]

/-- The value of a lane with no gate. -/
def half : FVec Ideal S_ .f32 := id (constant S_ .f32 0x3F000000#32)

theorem v42_at (R : Fin 16384) (l : Fin 96) :
    v42 m c (ix2 R l) = if h4 : l.val % 8 < 4 then v38 m c (ix2 R ⟨l.val / 32 * 16 + l.val % 8 * 4 + l.val / 8 % 4, by omega⟩)
      else Ideal.ofBits .f32 0x3F000000#32 := by
  have e : v42 m c (ix2 R l) = if h : l.val / 32 < 3 ∧ l.val / 8 % 4 < 4 ∧ l.val % 8 < 4
      then v38 m c (ix2 R ⟨l.val / 32 * 16 + l.val % 8 * 4 + l.val / 8 % 4, by omega⟩)
      else half (Shape.Idx.first h_S_) := by
    pointwise [v42]
    rfl
  rw [e]
  by_cases h4 : l.val % 8 < 4
  · rw [dif_pos h4, dif_pos ⟨by omega, by omega, h4⟩]
  · rw [dif_neg h4, dif_neg fun h => h4 h.2.2]
    rfl

theorem v43_at (R : Fin 16384) (l : Fin 128) : v43 m c (ix2 R l) = gate (args m c) (bo R) (so R) l := by
  have e : v43 m c (ix2 R l) = if h96 : l.val < 96 then v42 m c (ix2 R ⟨l.val, h96⟩) else Ideal.ofBits .f32 0x3F000000#32 := by
    pointwise [v43]
    rfl
  rw [e, gate]
  split
  · rename_i h96
    rw [v42_at]
    split
    · rw [v38_at]
      rfl
    · rfl
  · rfl

end Cert.Reference2Ideal.Ref

end
-- ==== Proof.FeedRef.Windows.lean ====
module

public import proofs.«01_k».proof.Proof.FeedRef.Result
public import proofs.«01_k».proof.Proof.Feed.Windows
public import Idealize.ShloMosaic.Lib.WordArith
public import Idealize.ShloMosaic.Lib.WordCmp

@[expose] public section

set_option maxRecDepth 16384

/-! The reference's compression of the keys and values, window by window, and its run's results. -/

noncomputable section

namespace Cert.Reference2Ideal.Ref

open Cert.Reference2Ideal Cert.Reference2Ideal.Gen Cert.Reference2Ideal.Value Cert.Feed
open Idealize.ShloMosaic Idealize.ShloMosaic.TcCoe Idealize.SL.Sem

/-- The first token of each place of each window, before a negative one would count from the end. -/
def places : IVec S255x32 32 :=
  addi (broadcastInDim S255x32 ![0, 1] bcast_S255x1_S255x32_0_1 (muli (broadcastInDim S255x1 ![0] bcast_S255_S255x1_0 (iotaInDim S255 32 0)) (broadcastInDim S255x1 ![] bcast_S_S255x1 (constantI S_ 32 16#32)))) (broadcastInDim S255x32 ![0, 1] bcast_S1x32_S255x32_0_1 (broadcastInDim S1x32 ![1] bcast_S32_S1x32_1 (iotaInDim S32 32 0)))

/-- The token of each place of each window. -/
def tokens : IVec S255x32x1 32 :=
  broadcastInDim S255x32x1 ![0, 1] bcast_S255x32_S255x32x1_0_1 (select (cmpi .slt places (broadcastInDim S255x32 ![] bcast_S_S255x32 (constantI S_ 32 0#32))) (addi places (broadcastInDim S255x32 ![] bcast_S_S255x32 (constantI S_ 32 4096#32))) places)

/-- A place's token, as a number. -/
theorem word_sum (n l : ℕ) :
    IntOp.addi (IntOp.muli (BitVec.ofNat 32 n) 16#32) (BitVec.ofNat 32 l) = BitVec.ofNat 32 (16 * n + l) := by
  show BitVec.ofNat 32 n * BitVec.ofNat 32 16 + BitVec.ofNat 32 l = _
  rw [← BitVec.ofNat_mul, ← BitVec.ofNat_add, Nat.mul_comm]

theorem places_at (n : Fin 255) (l : Fin 32) : places (ix2 n l) = BitVec.ofNat 32 (16 * n.val + l.val) := by
  rw [← word_sum]
  pointwise [places]

/-- A word that is not negative stays. -/
theorem word_stay (t : ℕ) (h : t < 4096) (p q : BitVec 32) :
    Scalar.select (IntOp.cmpi CmpIPredicate.slt (BitVec.ofNat 32 t) 0#32) p q = q := by
  word_cmp
  exact if_neg (Nat.not_lt_zero t)

theorem tokens_at (n : Fin 255) (l : Fin 32) : tokens (ix3 n l 0) = BitVec.ofNat 32 (16 * n.val + l.val) := by
  have e : tokens (ix3 n l 0) = Scalar.select (IntOp.cmpi .slt (places (ix2 n l)) 0#32) (IntOp.addi (places (ix2 n l)) 4096#32) (places (ix2 n l)) := by
    pointwise [tokens]
  rw [e, places_at, word_stay _ (by omega)]

/-- The windows' tokens are read one by one. -/
theorem gather_at (x : FVec Ideal S4x4096x4x128 .f32) (b : Fin 4) (n : Fin 255) (l : Fin 32) (g : Fin 4) (d : Fin 128) :
    Host.gather gather_S4x4096x4x128_S255x32x1_S4x255x32x4x128_034_1_n_n_1_2_414128 x tokens (ix5 b n l g d)
      = x (ix4 b ⟨16 * n.val + l.val, by omega⟩ g d) := by
  unfold Host.gather
  refine congrArg x (funext fun a => Fin.ext ?_)
  generalize hD : gather_S4x4096x4x128_S255x32x1_S4x255x32x4x128_034_1_n_n_1_2_414128 = D
  have ho : D.offsetDims = [0, 3, 4] := by rw [← hD]; rfl
  have hcl : D.collapsedSliceDims = [1] := by rw [← hD]; rfl
  have hb : D.operandBatchingDims = [] := by rw [← hD]; rfl
  have hs : D.startIndexMap = [1] := by rw [← hD]; rfl
  have hv : D.indexVectorDim = 2 := by rw [← hD]; rfl
  have hz : D.sliceSizes = ![4, 1, 4, 128] := by rw [← hD]; rfl
  have hbN : ∀ a', a' ∉ D.operandBatchingDims := fun a' => by rw [hb]; exact List.not_mem_nil
  have hkept : D.sKept = [0, 2, 3] := by
    show Shape.kept _ (D.collapsedSliceDims ++ D.operandBatchingDims) = _
    rw [hcl, hb]; rfl
  have hbatch : D.batchDims = [1, 2] := by
    show Shape.kept _ D.offsetDims = _
    rw [ho]; rfl
  have hsi : D.siKept = [0, 1] := by
    show (List.finRange 3).filter (fun k => decide (k.val ≠ D.indexVectorDim)) = _
    rw [hv]; rfl
  have c0 : ∀ X : Fin 5, X = 0 → (ix5 b n l g d X).val = b.val := fun X h => by subst h; rfl
  have c1 : ∀ X : Fin 5, X = 1 → (ix5 b n l g d X).val = n.val := fun X h => by subst h; rfl
  have c2 : ∀ X : Fin 5, X = 2 → (ix5 b n l g d X).val = l.val := fun X h => by subst h; rfl
  have c3 : ∀ X : Fin 5, X = 3 → (ix5 b n l g d X).val = g.val := fun X h => by subst h; rfl
  have c4 : ∀ X : Fin 5, X = 4 → (ix5 b n l g d X).val = d.val := fun X h => by subst h; rfl
  have st0 : ∀ a : Fin 4, a ≠ 1 → D.start (ix5 b n l g d) tokens a = 0 := fun a h => by
    unfold GatherDims.start
    rw [dif_neg (by rw [hs]; exact fun hm => h (List.mem_singleton.1 hm))]
  match a with
  | ⟨0, _⟩ =>
    show D.start (ix5 b n l g d) tokens 0 + D.batchCoord (ix5 b n l g d) 0 + D.offCoord (ix5 b n l g d) 0 = b.val
    rw [D.batchCoord_eq_zero _ _ (hbN 0), st0 0 (by decide)]
    unfold GatherDims.offCoord
    rw [dif_pos (by rw [hkept]; decide)]
    refine (Nat.zero_add _).trans (c0 _ ?_)
    simp only [ho, hkept]; rfl
  | ⟨1, _⟩ =>
    have hm : (1 : Fin 4) ∈ D.startIndexMap := by rw [hs]; exact List.mem_singleton.2 rfl
    show D.start (ix5 b n l g d) tokens 1 + D.batchCoord (ix5 b n l g d) 1 + D.offCoord (ix5 b n l g d) 1 = 16 * n.val + l.val
    rw [D.batchCoord_eq_zero _ _ (hbN 1), D.offCoord_eq_zero _ _ (by rw [hkept]; decide)]
    unfold GatherDims.start
    rw [dif_pos hm]
    have e : D.siIdx (ix5 b n l g d) ⟨D.startIndexMap.idxOf 1, List.idxOf_lt_length_iff.2 hm⟩ = ix3 n l (0 : Fin 1) := by
      funext b'
      apply Fin.ext
      match b' with
      | ⟨0, _⟩ =>
        unfold GatherDims.siIdx
        rw [dif_neg (by rw [hv]; decide +revert)]
        unfold GatherDims.siCoord
        simp only [Fin.val_cast]
        refine c1 _ ?_
        simp only [hbatch, hsi]; rfl
      | ⟨1, _⟩ =>
        unfold GatherDims.siIdx
        rw [dif_neg (by rw [hv]; decide +revert)]
        unfold GatherDims.siCoord
        simp only [Fin.val_cast]
        refine c2 _ ?_
        simp only [hbatch, hsi]; rfl
      | ⟨2, _⟩ =>
        unfold GatherDims.siIdx
        rw [dif_pos (by rw [hv])]
        show List.idxOf (1 : Fin 4) D.startIndexMap = 0
        rw [hs]; rfl
    have hn := n.isLt
    have hl := l.isLt
    rw [e, tokens_at, hz, WordArith.toInt_ofNat_small _ (by omega)]
    show min (((16 * n.val + l.val : ℕ) : Int)).toNat (4096 - 1) + 0 + 0 = 16 * n.val + l.val
    omega
  | ⟨2, _⟩ =>
    show D.start (ix5 b n l g d) tokens 2 + D.batchCoord (ix5 b n l g d) 2 + D.offCoord (ix5 b n l g d) 2 = g.val
    rw [D.batchCoord_eq_zero _ _ (hbN 2), st0 2 (by decide)]
    unfold GatherDims.offCoord
    rw [dif_pos (by rw [hkept]; decide)]
    refine (Nat.zero_add _).trans (c3 _ ?_)
    simp only [ho, hkept]; rfl
  | ⟨3, _⟩ =>
    show D.start (ix5 b n l g d) tokens 3 + D.batchCoord (ix5 b n l g d) 3 + D.offCoord (ix5 b n l g d) 3 = d.val
    rw [D.batchCoord_eq_zero _ _ (hbN 3), st0 3 (by decide)]
    unfold GatherDims.offCoord
    rw [dif_pos (by rw [hkept]; decide)]
    refine (Nat.zero_add _).trans (c4 _ ?_)
    simp only [ho, hkept]; rfl

/-- The windows, their places added and their entries in one row, of the tokens gathered. -/
def rows (Y : FVec Ideal S4x255x32x4x128 .f32) (P : FVec Ideal S32x128 .f32) : FVec Ideal S4x255x4x4096 .f32 :=
  shapeCast _ (transpose S4x255x4x32x128 [0, 1, 3, 2, 4] (addf Y (broadcastInDim S4x255x32x4x128 ![0, 1, 2, 3, 4] bcast_S1x1x32x1x128_S4x255x32x4x128_0_1_2_3_4 (broadcastInDim S1x1x32x1x128 ![2, 4] bcast_S32x128_S1x1x32x1x128_2_4 P))) transposes_S4x255x32x4x128_S4x255x4x32x128_0_1_3_2_4) shapeCasts_S4x255x4x32x128_S4x255x4x4096

theorem rows_at (Y : FVec Ideal S4x255x32x4x128 .f32) (P : FVec Ideal S32x128 .f32) (b : Fin 4) (n : Fin 255) (g : Fin 4) (k : Fin 4096) :
    rows Y P (ix4 b n g k) = Y (ix5 b n ⟨k.val / 128, by omega⟩ g ⟨k.val % 128, by omega⟩) + P (ix2 ⟨k.val / 128, by omega⟩ ⟨k.val % 128, by omega⟩) := by
  pointwise [rows]

/-- A layer over the windows' rows. -/
def layer1 (Y : FVec Ideal S4x255x4x4096 .f32) (w : FVec Ideal S4096x128 .f32) : FVec Ideal S4x255x4x128 .f32 :=
  Host.dotGeneral dot_S4x255x4x4096_S4096x128_S4x255x4x128_3_0_012_1_n_n none Y w

theorem layer1_at (Y : FVec Ideal S4x255x4x4096 .f32) (w : FVec Ideal S4096x128 .f32) (b : Fin 4) (n : Fin 255) (g : Fin 4) (e : Fin 128) :
    layer1 Y w (ix4 b n g e) = Cert.Spec.dot (fun k : Fin 4096 => Y (ix4 b n g k)) (fun k => w (ix2 k e)) := by
  pointwise [layer1, Cert.Spec.dot]

/-- The second layer, over the first one's SiLU. -/
def layer2 (Y : FVec Ideal S4x255x4x128 .f32) (w : FVec Ideal S128x128 .f32) : FVec Ideal S4x255x4x128 .f32 :=
  Host.dotGeneral dot_S4x255x4x128_S128x128_S4x255x4x128_3_0_012_1_n_n none (mulf Y (Host.divf (broadcastInDim S4x255x4x128 ![] bcast_S_S4x255x4x128 (constant S_ .f32 0x3F800000#32)) (addf (broadcastInDim S4x255x4x128 ![] bcast_S_S4x255x4x128 (constant S_ .f32 0x3F800000#32)) (Host.exp (Host.negf Y))))) w

theorem layer2_at (Y : FVec Ideal S4x255x4x128 .f32) (w : FVec Ideal S128x128 .f32) (b : Fin 4) (n : Fin 255) (g : Fin 4) (d : Fin 128) :
    layer2 Y w (ix4 b n g d) = Cert.Spec.dot (fun e : Fin 128 => Cert.Spec.silu (Y (ix4 b n g e))) (fun e => w (ix2 e d)) := by
  pointwise [layer2, Cert.Spec.dot, Cert.Spec.silu, Cert.Spec.sigm]

/-- The keys' windows and the values', one after the other, a row of zeros behind each group. -/
def stack (K V : FVec Ideal S4x255x4x128 .f32) : FVec Ideal S8x4x256x128 .bf16 :=
  truncf .bf16 (pad S8x4x256x128 ![0, 0, 0, 0] ![0, 0, 1, 0] ![0, 0, 0, 0] (transpose S8x4x255x128 [0, 2, 1, 3] (concatenate S8x255x4x128 0 [⟨S4x255x4x128, K⟩, ⟨S4x255x4x128, V⟩] concatenates_S4x255x4x128_S4x255x4x128_S8x255x4x128_d0) transposes_S8x255x4x128_S8x4x255x128_0_2_1_3) (sitofp .f32 (constantI S_ 32 0#32)) pads_S8x4x255x128_S8x4x256x128_000_000_010_000 h_S_) bitsLt_bf16_f32

theorem of_zero : FloatOps.sitofp (F := Ideal) .f32 0#32 = (0 : EReal) := by
  show ((((0#32 : BitVec 32).toInt : ℤ) : ℝ) : EReal) = 0
  norm_num

theorem stack_at (K V : FVec Ideal S4x255x4x128 .f32) (R : Fin 8) (g : Fin 4) (n : Fin 256) (d : Fin 128) :
    stack K V (ix4 R g n d) = if hn : n.val < 255 then
      (if hR : R.val < 4 then K (ix4 ⟨R.val, hR⟩ ⟨n.val, hn⟩ g d) else V (ix4 ⟨R.val - 4, by omega⟩ ⟨n.val, hn⟩ g d)) else 0 := by
  rw [← of_zero]
  pointwise [stack]

variable (m : (ℓ : Loc nD τ sig) → Buf (Elt Ideal) ℓ) (c : Dev nD)

/-- The compression's arguments by their coordinates. -/
def cargs : Cert.Feed.CmpArgs where
  pos r q d := a3 m c (ix3 r q d)
  w1 r k e := a4 m c (ix3 r k e)
  w2 r e d := a5 m c (ix3 r e d)

/-- The compression of the keys. -/
def keys : FVec Ideal S4x255x4x128 .f32 :=
  layer2 (layer1 (rows (Host.gather gather_S4x4096x4x128_S255x32x1_S4x255x32x4x128_034_1_n_n_1_2_414128
    (shapeCast _ (extractStridedSlice S4x4096x1x4x128 ![0, 0, 0, 0, 0] (shapeCast _ (v16 m c) shapeCasts_S4x4096x3072_S4x4096x6x4x128) slices_S4x4096x6x4x128_S4x4096x1x4x128_0_0_0_0_0) shapeCasts_S4x4096x1x4x128_S4x4096x4x128) tokens)
    (shapeCast _ (extractStridedSlice S1x32x128 ![0, 0, 0] (a3 m c) slices_S2x32x128_S1x32x128_0_0_0) shapeCasts_S1x32x128_S32x128))
    (shapeCast _ (extractStridedSlice S1x4096x128 ![0, 0, 0] (a4 m c) slices_S2x4096x128_S1x4096x128_0_0_0) shapeCasts_S1x4096x128_S4096x128))
    (shapeCast _ (extractStridedSlice S1x128x128 ![0, 0, 0] (a5 m c) slices_S2x128x128_S1x128x128_0_0_0) shapeCasts_S1x128x128_S128x128)

/-- The compression of the values. -/
def vals : FVec Ideal S4x255x4x128 .f32 :=
  layer2 (layer1 (rows (Host.gather gather_S4x4096x4x128_S255x32x1_S4x255x32x4x128_034_1_n_n_1_2_414128
    (shapeCast _ (extractStridedSlice S4x4096x1x4x128 ![0, 0, 1, 0, 0] (shapeCast _ (v16 m c) shapeCasts_S4x4096x3072_S4x4096x6x4x128) slices_S4x4096x6x4x128_S4x4096x1x4x128_0_0_1_0_0) shapeCasts_S4x4096x1x4x128_S4x4096x4x128) tokens)
    (shapeCast _ (extractStridedSlice S1x32x128 ![1, 0, 0] (a3 m c) slices_S2x32x128_S1x32x128_1_0_0) shapeCasts_S1x32x128_S32x128))
    (shapeCast _ (extractStridedSlice S1x4096x128 ![1, 0, 0] (a4 m c) slices_S2x4096x128_S1x4096x128_1_0_0) shapeCasts_S1x4096x128_S4096x128))
    (shapeCast _ (extractStridedSlice S1x128x128 ![1, 0, 0] (a5 m c) slices_S2x128x128_S1x128x128_1_0_0) shapeCasts_S1x128x128_S128x128)

/-- The compressed keys and values. -/
def v125 : FVec Ideal S8x4x256x128 .bf16 := stack (keys m c) (vals m c)

/-- Both layers over a window, from the window's entries. -/
theorem layers_at (X : FVec Ideal S4x4096x4x128 .f32) (P : FVec Ideal S32x128 .f32) (w : FVec Ideal S4096x128 .f32) (w' : FVec Ideal S128x128 .f32)
    (r : Fin 2) (hX : ∀ b t g d, X (ix4 b t g d) = p (args m c) b t ⟨2048 + ((r.val * 4 + g.val) * 128 + d.val), by omega⟩)
    (hP : ∀ q d, P (ix2 q d) = a3 m c (ix3 r q d)) (hw : ∀ k e, w (ix2 k e) = a4 m c (ix3 r k e)) (hw' : ∀ e d, w' (ix2 e d) = a5 m c (ix3 r e d))
    (b : Fin 4) (n : Fin 255) (g : Fin 4) (d : Fin 128) :
    layer2 (layer1 (rows (Host.gather gather_S4x4096x4x128_S255x32x1_S4x255x32x4x128_034_1_n_n_1_2_414128 X tokens) P) w) w' (ix4 b n g d)
      = Cert.Spec.dot (fun e => Cert.Spec.silu (hiddenOf (args m c) (cargs m c) r b g n e)) (fun e => (cargs m c).w2 r e d) := by
  rw [layer2_at]
  refine Cert.Spec.dot_congr (fun e => congrArg Cert.Spec.silu ?_) (fun e => hw' e d)
  rw [layer1_at]
  refine Cert.Spec.dot_congr (fun k => ?_) (fun k => hw k e)
  rw [rows_at, gather_at, hX, hP]
  rfl

theorem keys_at (b : Fin 4) (n : Fin 255) (g : Fin 4) (d : Fin 128) :
    keys m c (ix4 b n g d)
      = Cert.Spec.dot (fun e => Cert.Spec.silu (hiddenOf (args m c) (cargs m c) 0 b g n e)) (fun e => (cargs m c).w2 0 e d) := by
  refine layers_at m c _ _ _ _ 0 (fun b t g d => ?_) (fun q d => ?_) (fun k e => ?_) (fun e d => ?_) b n g d
  · have e := v16_at m c b t ⟨(0 * 4 + g.val) * 128 + d.val, by omega⟩
    refine Eq.trans ?_ e
    pointwise
  · pointwise
  · pointwise
  · pointwise

theorem vals_at (b : Fin 4) (n : Fin 255) (g : Fin 4) (d : Fin 128) :
    vals m c (ix4 b n g d)
      = Cert.Spec.dot (fun e => Cert.Spec.silu (hiddenOf (args m c) (cargs m c) 1 b g n e)) (fun e => (cargs m c).w2 1 e d) := by
  refine layers_at m c _ _ _ _ 1 (fun b t g d => ?_) (fun q d => ?_) (fun k e => ?_) (fun e d => ?_) b n g d
  · have e := v16_at m c b t ⟨(1 * 4 + g.val) * 128 + d.val, by omega⟩
    refine Eq.trans ?_ e
    pointwise
    exact congrArg (fun z => v16 m c (ix3 b t z)) (Fin.ext (by show 512 + g.val * 128 + d.val = (4 + g.val) * 128 + d.val; omega))
  · pointwise
  · pointwise
  · pointwise

theorem v125_at (R : Fin 8) (g : Fin 4) (n : Fin 256) (d : Fin 128) :
    v125 m c (ix4 R g n d) = windowOf (args m c) (cargs m c) ⟨R.val / 4, by omega⟩ ⟨R.val % 4, by omega⟩ g n d := by
  unfold v125 windowOf
  rw [stack_at]
  by_cases hn : n.val < 255
  · rw [dif_pos hn, dif_pos hn]
    by_cases hR : R.val < 4
    · rw [dif_pos hR, keys_at]
      have e0 : (⟨R.val / 4, by omega⟩ : Fin 2) = 0 := Fin.ext (by show R.val / 4 = 0; omega)
      have e1 : (⟨R.val % 4, by omega⟩ : Fin 4) = ⟨R.val, hR⟩ := Fin.ext (by show R.val % 4 = R.val; omega)
      rw [e0, e1]
    · rw [dif_neg hR, vals_at]
      have e0 : (⟨R.val / 4, by omega⟩ : Fin 2) = 1 := Fin.ext (by show R.val / 4 = 1; omega)
      have e1 : (⟨R.val % 4, by omega⟩ : Fin 4) = ⟨R.val - 4, by omega⟩ := Fin.ext (by show R.val % 4 = R.val - 4; omega)
      rw [e0, e1]
  · rw [dif_neg hn, dif_neg hn]

/-- The run's results. -/
theorem run (ρ : Dev nD → PrngReg) :
    θ_run defs (onTc (τ := τ) (main (F := Ideal))) ⟨m, fun _ => 0, ρ⟩ fun r => ∀ c : Dev nD,
      r.2.mem ((c.tc : Thread nD τ).loc main_v116) = v116 m c
      ∧ r.2.mem ((c.tc : Thread nD τ).loc main_v119) = v119 m c
      ∧ r.2.mem ((c.tc : Thread nD τ).loc main_v121) = v121 m c
      ∧ r.2.mem ((c.tc : Thread nD τ).loc main_v124) = v124 m c
      ∧ r.2.mem ((c.tc : Thread nD τ).loc main_v43) = v43 m c
      ∧ r.2.mem ((c.tc : Thread nD τ).loc main_v125) = v125 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference2Ideal.Value.run m ρ

end Cert.Reference2Ideal.Ref

end
-- ==== Proof.Join.Feed.lean ====
module

public import proofs.«01_k».proof.Proof.Feed.Run
public import proofs.«01_k».proof.Proof.Feed.Value
public import proofs.«01_k».proof.Proof.FeedRef.Windows

@[expose] public section

set_option maxRecDepth 16384

/-! From equal arguments, the projections' results and the reference's are the same arrays. -/

noncomputable section

namespace Cert.Join2

open Idealize.ShloMosaic Idealize.ShloMosaic.TcCoe Idealize.SL.Sem

/-- The two programs' arguments agree on a device. -/
def Agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

variable {m : (ℓ : Loc Cert.Kernel2Ideal.nD Cert.Kernel2Ideal.τ Cert.Kernel2Ideal.sig) → Buf (Elt Ideal) ℓ}
  {m' : (ℓ : Loc Cert.Reference2Ideal.nD Cert.Reference2Ideal.τ Cert.Reference2Ideal.sig) → Buf (Elt Ideal) ℓ}
  {c : Dev Cert.Kernel2Ideal.nD}

theorem args_eq (h : Agree m m' c) : Cert.Reference2Ideal.Ref.args m' c = Cert.Kernel2Ideal.Feed.args m c := by
  obtain ⟨h0, h1, h2, -, -, -⟩ := h
  have e0 : Cert.Reference2Ideal.Ref.a0 m' c = Cert.Kernel2Ideal.Feed.a0 m c := h0
  have e1 : Cert.Reference2Ideal.Ref.a1 m' c = Cert.Kernel2Ideal.Feed.a1 m c := h1
  have e2 : Cert.Reference2Ideal.Ref.a2 m' c = Cert.Kernel2Ideal.Feed.a2 m c := h2
  unfold Cert.Reference2Ideal.Ref.args Cert.Kernel2Ideal.Feed.args
  rw [e0, e1, e2]

theorem cargs_eq (h : Agree m m' c) : Cert.Reference2Ideal.Ref.cargs m' c = Cert.Kernel2Ideal.Feed.cargs m c := by
  obtain ⟨-, -, -, h3, h4, h5⟩ := h
  have e3 : Cert.Reference2Ideal.Ref.a3 m' c = Cert.Kernel2Ideal.Feed.a3 m c := h3
  have e4 : Cert.Reference2Ideal.Ref.a4 m' c = Cert.Kernel2Ideal.Feed.a4 m c := h4
  have e5 : Cert.Reference2Ideal.Ref.a5 m' c = Cert.Kernel2Ideal.Feed.a5 m c := h5
  unfold Cert.Reference2Ideal.Ref.cargs Cert.Kernel2Ideal.Feed.cargs
  rw [e3, e4, e5]

theorem v116_eq (h : Agree m m' c) : Cert.Reference2Ideal.Ref.v116 m' c = Cert.Kernel2Ideal.Feed.r13 m c := by
  funext i
  have hi : i = ix2 (i 0) (i 1) := by idx_vars i; rfl
  rw [hi]
  refine (Cert.Reference2Ideal.Ref.v116_at m' c (i 0) (i 1)).trans (Eq.trans ?_ (Cert.Kernel2Ideal.Feed.r13_at m c (i 0) (i 1)).symm)
  rw [args_eq h]
  rfl

theorem v119_eq (h : Agree m m' c) : Cert.Reference2Ideal.Ref.v119 m' c = Cert.Kernel2Ideal.Feed.r14 m c := by
  funext i
  have hi : i = ix2 (i 0) (i 1) := by idx_vars i; rfl
  rw [hi]
  refine (Cert.Reference2Ideal.Ref.v119_at m' c (i 0) (i 1)).trans (Eq.trans ?_ (Cert.Kernel2Ideal.Feed.r14_at m c (i 0) (i 1)).symm)
  rw [args_eq h]
  rfl

theorem v121_eq (h : Agree m m' c) : Cert.Reference2Ideal.Ref.v121 m' c = Cert.Kernel2Ideal.Feed.r15 m c := by
  funext i
  have hi : i = ix2 (i 0) (i 1) := by idx_vars i; rfl
  rw [hi]
  refine (Cert.Reference2Ideal.Ref.v121_at m' c (i 0) (i 1)).trans (Eq.trans ?_ (Cert.Kernel2Ideal.Feed.r15_at m c (i 0) (i 1)).symm)
  rw [args_eq h]
  rfl

theorem v124_eq (h : Agree m m' c) : Cert.Reference2Ideal.Ref.v124 m' c = Cert.Kernel2Ideal.Feed.r16 m c := by
  funext i
  have hi : i = ix2 (i 0) (i 1) := by idx_vars i; rfl
  rw [hi]
  refine (Cert.Reference2Ideal.Ref.v124_at m' c (i 0) (i 1)).trans (Eq.trans ?_ (Cert.Kernel2Ideal.Feed.r16_at m c (i 0) (i 1)).symm)
  rw [args_eq h]
  rfl

theorem v43_eq (h : Agree m m' c) : Cert.Reference2Ideal.Ref.v43 m' c = Cert.Kernel2Ideal.Feed.r17 m c := by
  funext i
  have hi : i = ix2 (i 0) (i 1) := by idx_vars i; rfl
  rw [hi]
  refine (Cert.Reference2Ideal.Ref.v43_at m' c (i 0) (i 1)).trans (Eq.trans ?_ (Cert.Kernel2Ideal.Feed.r17_at m c (i 0) (i 1)).symm)
  rw [args_eq h]

theorem v125_eq (h : Agree m m' c) : Cert.Reference2Ideal.Ref.v125 m' c = Cert.Kernel2Ideal.Feed.r21 m c := by
  funext i
  have hi : i = ix4 (i 0) (i 1) (i 2) (i 3) := by idx_vars i; rfl
  rw [hi]
  refine (Cert.Reference2Ideal.Ref.v125_at m' c (i 0) (i 1) (i 2) (i 3)).trans (Eq.trans ?_ (Cert.Kernel2Ideal.Feed.r21_at m c (i 0) (i 1) (i 2) (i 3)).symm)
  rw [args_eq h, cargs_eq h]

end Cert.Join2

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Join.Equal
public import proofs.«01_k».proof.Proof.Join.Feed
public import Idealize.ShloMosaic.Adequacy
public import Idealize.ShloMosaic.Init

@[expose] public section

/-! The certificate: the frames of the six programs, the idealizations, and the equality of the results.

The kernel is ten calls. Each call's result is stated and proved in its own module (`Part.Rms`, `Part.Proj1`,
`Part.Proj2`, `Part.Proj3`, `Part.Glu`, `Part.Conv`, `Part.Sgu`, `Part.Merge`, `Part.Out`, `Part.Norm`), `Part.Chain` passes
them from call to call, `Part.Run` runs the whole, and `Part.Value` reads the last value token by token as
`Cert.Spec.result`. `Ref.Result` reads the reference's result the same way; `Join.Equal` puts the two together.

The second kernel is the norm, the five projections that feed the branches, and the compression of the keys and values:
`Feed.Norm`, `Feed.Query`, `Feed.Plain`, `Feed.Single`, `Feed.Gated`, `Feed.Gate` and `Feed.Compress` are the calls,
`Feed.Chain`, `Feed.Run` and `Feed.Value` as above, with the compression's value stated in `Feed.Windows`; `FeedRef.Result` and
`FeedRef.Windows` read the second reference, and `Join.Feed` puts the two together. -/

noncomputable section

namespace Cert.Proof

open Idealize.ShloMosaic Idealize.ShloMosaic.TcCoe Idealize.SL.Sem

/-- From memories agreeing on the arguments, the kernel and the reference end with the same result. -/
theorem equal : Cert.algebraic_KernelIdeal_ReferenceIdeal (hKernelIdeal := Cert.KernelIdeal.Gen.facts)
    (hReferenceIdeal := Cert.ReferenceIdeal.Gen.facts) := fun m g m' g' _ h =>
  ⟨fun c => Cert.KernelIdeal.Part.r28 m c, Cert.KernelIdeal.Part.run m g,
    (θ_run Cert.ReferenceIdeal.defs _ _).mono
      (fun r hr c => ⟨((hr c).1 : _ = Cert.ReferenceIdeal.Ref.v360 (StableHlo.launchContents m' c)).trans
        (Cert.Join.result_eq (h c)), (hr c).2⟩) (Cert.ReferenceIdeal.Value.run m' g')⟩

/-- The reference has no semaphore. -/
theorem no_sem : ∀ s : SemLoc Cert.ReferenceIdeal.sig, False := by decide

/-- From memories agreeing on the arguments, the projections with the compression and their reference end with the same results. -/
theorem equal2 : Cert.algebraic_Kernel2Ideal_Reference2Ideal (hKernel2Ideal := Cert.Kernel2Ideal.Gen.facts)
    (hReference2Ideal := Cert.Reference2Ideal.Gen.facts) := fun m g m' g' _ h =>
  ⟨fun c => Cert.Kernel2Ideal.Feed.r13 m c, fun c => Cert.Kernel2Ideal.Feed.r14 m c, fun c => Cert.Kernel2Ideal.Feed.r15 m c,
    fun c => Cert.Kernel2Ideal.Feed.r16 m c, fun c => Cert.Kernel2Ideal.Feed.r17 m c,
    fun c => Cert.Kernel2Ideal.Feed.r21 m c, Cert.Kernel2Ideal.Feed.run m g,
    (θ_run Cert.Reference2Ideal.defs _ _).mono
      (fun r hr c => ⟨(hr c).1.trans (Cert.Join2.v116_eq (h c)), (hr c).2.1.trans (Cert.Join2.v119_eq (h c)),
        (hr c).2.2.1.trans (Cert.Join2.v121_eq (h c)), (hr c).2.2.2.1.trans (Cert.Join2.v124_eq (h c)),
        (hr c).2.2.2.2.1.trans (Cert.Join2.v43_eq (h c)), (hr c).2.2.2.2.2.1.trans (Cert.Join2.v125_eq (h c)),
        (hr c).2.2.2.2.2.2⟩) (Cert.Reference2Ideal.Ref.run m' g')⟩

/-- The second reference has no semaphore. -/
theorem no_sem2 : ∀ s : SemLoc Cert.Reference2Ideal.sig, False := by decide

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    fun m ρ _ => Cert.Kernel.Gen.frame m ρ,
    fun m ρ _ => Cert.KernelIdeal.Gen.frame m ρ,
    fun m ρ _ => (θ_run Cert.ReferenceIdeal.defs _ _).mono (fun _ h => ⟨fun c => (h c).2, funext fun g => (no_sem g.2).elim⟩) (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono (fun _ h => ⟨fun c => (h c).2.2.2.2.2.2, funext fun g => (no_sem2 g.2).elim⟩) (Cert.Reference2Ideal.Value.run m ρ),
    trivial,
    equal,
    trivial,
    equal2⟩

end Cert.Proof

end
